-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_cls [hPre_finite_cls : Cert.Pre_finite_cls.Facts] (m : (ℓ : Loc Cert.KernelIdeal.nD Cert.KernelIdeal.τ Cert.KernelIdeal.sig) → Buf (Elt Ideal) ℓ) : Prop :=
  ∀ c : Dev Cert.KernelIdeal.nD,
    (Cert.Pre_finite_cls.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_cls [hPre_finite_cls : Cert.Pre_finite_cls.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_cls.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_cls [hKernelIdeal : Cert.KernelIdeal.Facts] [hPre_finite_cls : Cert.Pre_finite_cls.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_cls m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_cls [hReferenceIdeal : Cert.ReferenceIdeal.Facts] [hPre_finite_cls : Cert.Pre_finite_cls.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_cls m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_cls [hKernelIdeal : Cert.KernelIdeal.Facts] [hReferenceIdeal : Cert.ReferenceIdeal.Facts] [hPre_finite_cls : Cert.Pre_finite_cls.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_cls m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_cls : Cert.Pre_finite_cls.Facts),
    quiescent_Kernel (hKernel := hKernel)
    ∧ quiescent_KernelIdeal (hKernelIdeal := hKernelIdeal)
    ∧ quiescent_KernelIdeal_pre_finite_cls (hKernelIdeal := hKernelIdeal) (hPre_finite_cls := hPre_finite_cls)
    ∧ quiescent_ReferenceIdeal (hReferenceIdeal := hReferenceIdeal)
    ∧ quiescent_ReferenceIdeal_pre_finite_cls (hReferenceIdeal := hReferenceIdeal) (hPre_finite_cls := hPre_finite_cls)
    ∧ preserves_Kernel_KernelIdeal
    ∧ algebraic_KernelIdeal_ReferenceIdeal_pre_finite_cls (hKernelIdeal := hKernelIdeal) (hReferenceIdeal := hReferenceIdeal) (hPre_finite_cls := hPre_finite_cls)
-- ==== Pre_finite_cls.lean ====
abbrev S1x2x128x128x256 : Shape := ⟨5, ![1, 2, 128, 128, 256]⟩
abbrev S3x3x256x512 : Shape := ⟨4, ![3, 3, 256, 512]⟩
abbrev S512 : Shape := ⟨1, ![512]⟩
abbrev S1x1x512x30 : Shape := ⟨4, ![1, 1, 512, 30]⟩
abbrev S30 : Shape := ⟨1, ![30]⟩
abbrev S1x1x512x60 : Shape := ⟨4, ![1, 1, 512, 60]⟩
abbrev S60 : Shape := ⟨1, ![60]⟩
abbrev S_ : Shape := ⟨0, ![]⟩

class Facts : Prop where
  bcast_S_S1x1x512x30 : S_.BroadcastsInDim S1x1x512x30 (![] : Fin 0 → Fin S1x1x512x30.rank)
  reducesTo_S1x1x512x30_S_d0_1_2_3 : S1x1x512x30.ReducesTo [0, 1, 2, 3] S_
  h_S_ : 0 < S_.numel
  bcast_S_S30 : S_.BroadcastsInDim S30 (![] : Fin 0 → Fin S30.rank)
  reducesTo_S30_S_d0 : S30.ReducesTo [0] S_

variable [Facts]

def fn {F : FTy → Type} [FloatOps F] (main_arg0 : FVec F S1x2x128x128x256 .f32) (main_arg1 : FVec F S3x3x256x512 .f32) (main_arg2 : FVec F S512 .f32) (main_arg3 : FVec F S1x1x512x30 .f32) (main_arg4 : FVec F S30 .f32) (main_arg5 : FVec F S1x1x512x60 .f32) (main_arg6 : FVec F S60 .f32) : IVec S_ 1 :=
  let main_v0 : FVec F S1x1x512x30 .f32 := Host.absf main_arg3
  let main_cst : FVec F S_ .f32 := constant S_ .f32 0x7F800000#32
  let main_v1 : FVec F S1x1x512x30 .f32 := broadcastInDim S1x1x512x30 ![] bcast_S_S1x1x512x30 main_cst
  let main_v2 : IVec S1x1x512x30 1 := cmpf .olt main_v0 main_v1
  let main_c : IVec S_ 1 := constantI S_ 1 1#1
  let main_v3 : IVec S_ 1 := (fun x v => Host.reduce IntOp.andi x v reducesTo_S1x1x512x30_S_d0_1_2_3 h_S_) main_v2 main_c
  let main_v4 : FVec F S30 .f32 := Host.absf main_arg4
  let main_cst_0 : FVec F S_ .f32 := constant S_ .f32 0x7F800000#32
  let main_v5 : FVec F S30 .f32 := broadcastInDim S30 ![] bcast_S_S30 main_cst_0
  let main_v6 : IVec S30 1 := cmpf .olt main_v4 main_v5
  let main_c_1 : IVec S_ 1 := constantI S_ 1 1#1
  let main_v7 : IVec S_ 1 := (fun x v => Host.reduce IntOp.andi x v reducesTo_S30_S_d0 h_S_) main_v6 main_c_1
  let main_v8 : IVec S_ 1 := andi main_v3 main_v7
  main_v8
-- ==== Kernel.lean ====
abbrev S1x2x128x128x256 : Shape := ⟨5, ![1, 2, 128, 128, 256]⟩
abbrev S3x3x256x512 : Shape := ⟨4, ![3, 3, 256, 512]⟩
abbrev S512 : Shape := ⟨1, ![512]⟩
abbrev S1x1x512x30 : Shape := ⟨4, ![1, 1, 512, 30]⟩
abbrev S30 : Shape := ⟨1, ![30]⟩
abbrev S1x1x512x60 : Shape := ⟨4, ![1, 1, 512, 60]⟩
abbrev S60 : Shape := ⟨1, ![60]⟩
abbrev S2x128x128x256 : Shape := ⟨4, ![2, 128, 128, 256]⟩
abbrev S512x30 : Shape := ⟨2, ![512, 30]⟩
abbrev S512x60 : Shape := ⟨2, ![512, 60]⟩
abbrev S1x512 : Shape := ⟨2, ![1, 512]⟩
abbrev S1x30 : Shape := ⟨2, ![1, 30]⟩
abbrev S1x60 : Shape := ⟨2, ![1, 60]⟩
abbrev S2x245760x2 : Shape := ⟨3, ![2, 245760, 2]⟩
abbrev S2x245760x4 : Shape := ⟨3, ![2, 245760, 4]⟩
abbrev S1x4x128x256 : Shape := ⟨4, ![1, 4, 128, 256]⟩
abbrev S1x1x128x256 : Shape := ⟨4, ![1, 1, 128, 256]⟩
abbrev S1x7680x2 : Shape := ⟨3, ![1, 7680, 2]⟩
abbrev S1x7680x4 : Shape := ⟨3, ![1, 7680, 4]⟩
abbrev S4x128x256 : Shape := ⟨3, ![4, 128, 256]⟩
abbrev S1x128x256 : Shape := ⟨3, ![1, 128, 256]⟩
abbrev S6x128x256 : Shape := ⟨3, ![6, 128, 256]⟩
abbrev S6x1x256 : Shape := ⟨3, ![6, 1, 256]⟩
abbrev S6x129x256 : Shape := ⟨3, ![6, 129, 256]⟩
abbrev S6x130x256 : Shape := ⟨3, ![6, 130, 256]⟩
abbrev S512x512 : Shape := ⟨2, ![512, 512]⟩
abbrev S512x256 : Shape := ⟨2, ![512, 256]⟩
abbrev S1x1x256x512 : Shape := ⟨4, ![1, 1, 256, 512]⟩
abbrev S256x512 : Shape := ⟨2, ![256, 512]⟩
abbrev S512x29 : Shape := ⟨2, ![512, 29]⟩
abbrev S512x1 : Shape := ⟨2, ![512, 1]⟩
abbrev S512x2 : Shape := ⟨2, ![512, 2]⟩
abbrev S1x512x2 : Shape := ⟨3, ![1, 512, 2]⟩
abbrev S512x4 : Shape := ⟨2, ![512, 4]⟩
abbrev S1x512x4 : Shape := ⟨3, ![1, 512, 4]⟩

abbrev nBuf : Space → Nat
  | .hbm => 19
  | .vmem => 18
  | .smem => 0
  | _ => 0

abbrev bufTy : (tb : Table) → Fin (tcTables nBuf tb) → BufTy
  | .hbm, ⟨0, _⟩ => ⟨S1x2x128x128x256, .f32⟩
  | .hbm, ⟨1, _⟩ => ⟨S3x3x256x512, .f32⟩
  | .hbm, ⟨2, _⟩ => ⟨S512, .f32⟩
  | .hbm, ⟨3, _⟩ => ⟨S1x1x512x30, .f32⟩
  | .hbm, ⟨4, _⟩ => ⟨S30, .f32⟩
  | .hbm, ⟨5, _⟩ => ⟨S1x1x512x60, .f32⟩
  | .hbm, ⟨6, _⟩ => ⟨S60, .f32⟩
  | .hbm, ⟨7, _⟩ => ⟨S2x128x128x256, .f32⟩
  | .hbm, ⟨8, _⟩ => ⟨S3x3x256x512, .bf16⟩
  | .hbm, ⟨9, _⟩ => ⟨S512x30, .f32⟩
  | .hbm, ⟨10, _⟩ => ⟨S512x30, .bf16⟩
  | .hbm, ⟨11, _⟩ => ⟨S512x60, .f32⟩
  | .hbm, ⟨12, _⟩ => ⟨S512x60, .bf16⟩
  | .hbm, ⟨13, _⟩ => ⟨S1x512, .f32⟩
  | .hbm, ⟨14, _⟩ => ⟨S1x30, .f32⟩
  | .hbm, ⟨15, _⟩ => ⟨S1x60, .f32⟩
  | .hbm, ⟨16, _⟩ => ⟨S2x245760x2, .f32⟩
  | .hbm, ⟨17, _⟩ => ⟨S2x245760x2, .f32⟩
  | .hbm, ⟨18, _⟩ => ⟨S2x245760x4, .f32⟩
  | .local _ .vmem, ⟨0, _⟩ => ⟨S1x4x128x256, .f32⟩
  | .local _ .vmem, ⟨1, _⟩ => ⟨S1x4x128x256, .f32⟩
  | .local _ .vmem, ⟨2, _⟩ => ⟨S1x1x128x256, .f32⟩
  | .local _ .vmem, ⟨3, _⟩ => ⟨S1x1x128x256, .f32⟩
  | .local _ .vmem, ⟨4, _⟩ => ⟨S1x1x128x256, .f32⟩
  | .local _ .vmem, ⟨5, _⟩ => ⟨S1x1x128x256, .f32⟩
  | .local _ .vmem, ⟨6, _⟩ => ⟨S3x3x256x512, .bf16⟩
  | .local _ .vmem, ⟨7, _⟩ => ⟨S1x512, .f32⟩
  | .local _ .vmem, ⟨8, _⟩ => ⟨S512x30, .bf16⟩
  | .local _ .vmem, ⟨9, _⟩ => ⟨S1x30, .f32⟩
  | .local _ .vmem, ⟨10, _⟩ => ⟨S512x60, .bf16⟩
  | .local _ .vmem, ⟨11, _⟩ => ⟨S1x60, .f32⟩
  | .local _ .vmem, ⟨12, _⟩ => ⟨S1x7680x2, .f32⟩
  | .local _ .vmem, ⟨13, _⟩ => ⟨S1x7680x2, .f32⟩
  | .local _ .vmem, ⟨14, _⟩ => ⟨S1x7680x2, .f32⟩
  | .local _ .vmem, ⟨15, _⟩ => ⟨S1x7680x2, .f32⟩
  | .local _ .vmem, ⟨16, _⟩ => ⟨S1x7680x4, .f32⟩
  | .local _ .vmem, ⟨17, _⟩ => ⟨S1x7680x4, .f32⟩
  | _, _ => ⟨S1x2x128x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.addi v0 c4_i32_0
  let c127_i32 : BitVec 32 := 127#32
  let v2 : BitVec 32 := Scalar.minsi v1 c127_i32
  let c0_i32 : BitVec 32 := 0#32
  let c0_i32_1 : BitVec 32 := 0#32
  let c0_i32_2 : BitVec 32 := 0#32
  ![arg0.toNat, v2.toNat, c0_i32.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x3x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x30 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x30 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x60 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x60 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x7680x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x7680x2 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x7680x4 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S1x2x128x128x256 : Shape := ⟨5, ![1, 2, 128, 128, 256]⟩
abbrev S3x3x256x512 : Shape := ⟨4, ![3, 3, 256, 512]⟩
abbrev S512 : Shape := ⟨1, ![512]⟩
abbrev S1x1x512x30 : Shape := ⟨4, ![1, 1, 512, 30]⟩
abbrev S30 : Shape := ⟨1, ![30]⟩
abbrev S1x1x512x60 : Shape := ⟨4, ![1, 1, 512, 60]⟩
abbrev S60 : Shape := ⟨1, ![60]⟩
abbrev S2x128x128x256 : Shape := ⟨4, ![2, 128, 128, 256]⟩
abbrev S_ : Shape := ⟨0, ![]⟩
abbrev S2x130x130x256 : Shape := ⟨4, ![2, 130, 130, 256]⟩
abbrev S2x128x128x512 : Shape := ⟨4, ![2, 128, 128, 512]⟩
abbrev S1x1x256x512 : Shape := ⟨4, ![1, 1, 256, 512]⟩
abbrev S256x512 : Shape := ⟨2, ![256, 512]⟩
abbrev S1x1x1x512 : Shape := ⟨4, ![1, 1, 1, 512]⟩
abbrev S512x30 : Shape := ⟨2, ![512, 30]⟩
abbrev S2x128x128x30 : Shape := ⟨4, ![2, 128, 128, 30]⟩
abbrev S1x1x1x30 : Shape := ⟨4, ![1, 1, 1, 30]⟩
abbrev S2x245760x2 : Shape := ⟨3, ![2, 245760, 2]⟩
abbrev S2x245760 : Shape := ⟨2, ![2, 245760]⟩
abbrev S2x245760x1 : Shape := ⟨3, ![2, 245760, 1]⟩
abbrev S512x60 : Shape := ⟨2, ![512, 60]⟩
abbrev S2x128x128x60 : Shape := ⟨4, ![2, 128, 128, 60]⟩
abbrev S1x1x1x60 : Shape := ⟨4, ![1, 1, 1, 60]⟩
abbrev S2x245760x4 : Shape := ⟨3, ![2, 245760, 4]⟩

abbrev nBuf : Space → Nat
  | .hbm => 93
  | .vmem => 0
  | .smem => 0
  | _ => 0

abbrev bufTy : (tb : Table) → Fin (tcTables nBuf tb) → BufTy
  | .hbm, ⟨0, _⟩ => ⟨S1x2x128x128x256, .f32⟩
  | .hbm, ⟨1, _⟩ => ⟨S3x3x256x512, .f32⟩
  | .hbm, ⟨2, _⟩ => ⟨S512, .f32⟩
  | .hbm, ⟨3, _⟩ => ⟨S1x1x512x30, .f32⟩
  | .hbm, ⟨4, _⟩ => ⟨S30, .f32⟩
  | .hbm, ⟨5, _⟩ => ⟨S1x1x512x60, .f32⟩
  | .hbm, ⟨6, _⟩ => ⟨S60, .f32⟩
  | .hbm, ⟨7, _⟩ => ⟨S2x128x128x256, .f32⟩
  | .hbm, ⟨8, _⟩ => ⟨S_, .i32⟩
  | .hbm, ⟨9, _⟩ => ⟨S_, .f32⟩
  | .hbm, ⟨10, _⟩ => ⟨S2x130x130x256, .f32⟩
  | .hbm, ⟨11, _⟩ => ⟨S_, .f32⟩
  | .hbm, ⟨12, _⟩ => ⟨S2x128x128x512, .f32⟩
  | .hbm, ⟨13, _⟩ => ⟨S2x128x128x256, .f32⟩
  | .hbm, ⟨14, _⟩ => ⟨S1x1x256x512, .f32⟩
  | .hbm, ⟨15, _⟩ => ⟨S256x512, .f32⟩
  | .hbm, ⟨16, _⟩ => ⟨S2x128x128x512, .f32⟩
  | .hbm, ⟨17, _⟩ => ⟨S2x128x128x512, .f32⟩
  | .hbm, ⟨18, _⟩ => ⟨S2x128x128x256, .f32⟩
  | .hbm, ⟨19, _⟩ => ⟨S1x1x256x512, .f32⟩
  | .hbm, ⟨20, _⟩ => ⟨S256x512, .f32⟩
  | .hbm, ⟨21, _⟩ => ⟨S2x128x128x512, .f32⟩
  | .hbm, ⟨22, _⟩ => ⟨S2x128x128x512, .f32⟩
  | .hbm, ⟨23, _⟩ => ⟨S2x128x128x256, .f32⟩
  | .hbm, ⟨24, _⟩ => ⟨S1x1x256x512, .f32⟩
  | .hbm, ⟨25, _⟩ => ⟨S256x512, .f32⟩
  | .hbm, ⟨26, _⟩ => ⟨S2x128x128x512, .f32⟩
  | .hbm, ⟨27, _⟩ => ⟨S2x128x128x512, .f32⟩
  | .hbm, ⟨28, _⟩ => ⟨S2x128x128x256, .f32⟩
  | .hbm, ⟨29, _⟩ => ⟨S1x1x256x512, .f32⟩
  | .hbm, ⟨30, _⟩ => ⟨S256x512, .f32⟩
  | .hbm, ⟨31, _⟩ => ⟨S2x128x128x512, .f32⟩
  | .hbm, ⟨32, _⟩ => ⟨S2x128x128x512, .f32⟩
  | .hbm, ⟨33, _⟩ => ⟨S2x128x128x256, .f32⟩
  | .hbm, ⟨34, _⟩ => ⟨S1x1x256x512, .f32⟩
  | .hbm, ⟨35, _⟩ => ⟨S256x512, .f32⟩
  | .hbm, ⟨36, _⟩ => ⟨S2x128x128x512, .f32⟩
  | .hbm, ⟨37, _⟩ => ⟨S2x128x128x512, .f32⟩
  | .hbm, ⟨38, _⟩ => ⟨S2x128x128x256, .f32⟩
  | .hbm, ⟨39, _⟩ => ⟨S1x1x256x512, .f32⟩
  | .hbm, ⟨40, _⟩ => ⟨S256x512, .f32⟩
  | .hbm, ⟨41, _⟩ => ⟨S2x128x128x512, .f32⟩
  | .hbm, ⟨42, _⟩ => ⟨S2x128x128x512, .f32⟩
  | .hbm, ⟨43, _⟩ => ⟨S2x128x128x256, .f32⟩
  | .hbm, ⟨44, _⟩ => ⟨S1x1x256x512, .f32⟩
  | .hbm, ⟨45, _⟩ => ⟨S256x512, .f32⟩
  | .hbm, ⟨46, _⟩ => ⟨S2x128x128x512, .f32⟩
  | .hbm, ⟨47, _⟩ => ⟨S2x128x128x512, .f32⟩
  | .hbm, ⟨48, _⟩ => ⟨S2x128x128x256, .f32⟩
  | .hbm, ⟨49, _⟩ => ⟨S1x1x256x512, .f32⟩
  | .hbm, ⟨50, _⟩ => ⟨S256x512, .f32⟩
  | .hbm, ⟨51, _⟩ => ⟨S2x128x128x512, .f32⟩
  | .hbm, ⟨52, _⟩ => ⟨S2x128x128x512, .f32⟩
  | .hbm, ⟨53, _⟩ => ⟨S2x128x128x256, .f32⟩
  | .hbm, ⟨54, _⟩ => ⟨S1x1x256x512, .f32⟩
  | .hbm, ⟨55, _⟩ => ⟨S256x512, .f32⟩
  | .hbm, ⟨56, _⟩ => ⟨S2x128x128x512, .f32⟩
  | .hbm, ⟨57, _⟩ => ⟨S2x128x128x512, .f32⟩
  | .hbm, ⟨58, _⟩ => ⟨S1x1x1x512, .f32⟩
  | .hbm, ⟨59, _⟩ => ⟨S2x128x128x512, .f32⟩
  | .hbm, ⟨60, _⟩ => ⟨S2x128x128x512, .f32⟩
  | .hbm, ⟨61, _⟩ => ⟨S_, .f32⟩
  | .hbm, ⟨62, _⟩ => ⟨S2x128x128x512, .f32⟩
  | .hbm, ⟨63, _⟩ => ⟨S2x128x128x512, .f32⟩
  | .hbm, ⟨64, _⟩ => ⟨S_, .f32⟩
  | .hbm, ⟨65, _⟩ => ⟨S2x128x128x512, .f32⟩
  | .hbm, ⟨66, _⟩ => ⟨S2x128x128x512, .f32⟩
  | .hbm, ⟨67, _⟩ => ⟨S512x30, .f32⟩
  | .hbm, ⟨68, _⟩ => ⟨S2x128x128x30, .f32⟩
  | .hbm, ⟨69, _⟩ => ⟨S1x1x1x30, .f32⟩
  | .hbm, ⟨70, _⟩ => ⟨S2x128x128x30, .f32⟩
  | .hbm, ⟨71, _⟩ => ⟨S2x128x128x30, .f32⟩
  | .hbm, ⟨72, _⟩ => ⟨S2x245760x2, .f32⟩
  | .hbm, ⟨73, _⟩ => ⟨S_, .f32⟩
  | .hbm, ⟨74, _⟩ => ⟨S2x245760, .f32⟩
  | .hbm, ⟨75, _⟩ => ⟨S_, .f32⟩
  | .hbm, ⟨76, _⟩ => ⟨S2x245760, .f32⟩
  | .hbm, ⟨77, _⟩ => ⟨S2x245760, .f32⟩
  | .hbm, ⟨78, _⟩ => ⟨S2x245760x1, .f32⟩
  | .hbm, ⟨79, _⟩ => ⟨S2x245760x2, .f32⟩
  | .hbm, ⟨80, _⟩ => ⟨S2x245760x2, .f32⟩
  | .hbm, ⟨81, _⟩ => ⟨S2x245760x2, .f32⟩
  | .hbm, ⟨82, _⟩ => ⟨S_, .f32⟩
  | .hbm, ⟨83, _⟩ => ⟨S2x245760, .f32⟩
  | .hbm, ⟨84, _⟩ => ⟨S2x245760x1, .f32⟩
  | .hbm, ⟨85, _⟩ => ⟨S2x245760x2, .f32⟩
  | .hbm, ⟨86, _⟩ => ⟨S2x245760x2, .f32⟩
  | .hbm, ⟨87, _⟩ => ⟨S512x60, .f32⟩
  | .hbm, ⟨88, _⟩ => ⟨S2x128x128x60, .f32⟩
  | .hbm, ⟨89, _⟩ => ⟨S1x1x1x60, .f32⟩
  | .hbm, ⟨90, _⟩ => ⟨S2x128x128x60, .f32⟩
  | .hbm, ⟨91, _⟩ => ⟨S2x128x128x60, .f32⟩
  | .hbm, ⟨92, _⟩ => ⟨S2x245760x4, .f32⟩
  | _, _ => ⟨S1x2x128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_0 : Ref sig .tc := ⟨.hbm, 61, rfl⟩
abbrev main_v51 : Ref sig .tc := ⟨.hbm, 62, rfl⟩
abbrev main_v52 : Ref sig .tc := ⟨.hbm, 63, rfl⟩
abbrev main_cst_1 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_2 : Ref sig .tc := ⟨.hbm, 73, rfl⟩
abbrev main_v61 : Ref sig .tc := ⟨.hbm, 74, rfl⟩
abbrev main_cst_3 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_4 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩

abbrev nD : Nat := 1
abbrev τ : Topo := Topo.v7x

variable {F : FTy → Type} [FloatOps F]
-- ==== Proof.Spread.lean ====
/-
  ROWS DEALT OUT WITH A STRIDE. A block of 512 positions carries, at each position, 15 groups of `n` lanes in one row of
  15·n lanes. The kernel stores group `k` of every position through a rectangle that starts at row `k` and steps by 15, so
  that the output block, 7680 rows of `n` lanes, holds group `r % 15` of position `r / 15` at row `r`. The fifteen
  rectangles tile the block, and what the fifteen stores leave is one function of the row and the lane (`spread`).
-/
module

public import Idealize.ShloMosaic.Lib.Pipeline.Value
public import Idealize.ShloMosaic.Lib.ValueIdxCore

@[expose] public section

set_option maxRecDepth 16384

noncomputable section

namespace Cert.Heads

open Idealize.ShloMosaic Idealize.ShloMosaic.ValueIdx

variable {Val : EltTy → Type} {e : EltTy} {n : Nat}

/-- 512 positions of 15 groups of `n` lanes. -/
abbrev Wide (n : Nat) : Shape := ⟨2, ![512, 15 * n]⟩
/-- One group of every position. -/
abbrev Thin (n : Nat) : Shape := ⟨2, ![512, n]⟩
/-- One group of every position, as it is stored. -/
abbrev Lifted (n : Nat) : Shape := ⟨3, ![1, 512, n]⟩
/-- The output block: 7680 rows of `n` lanes. -/
abbrev Tall (n : Nat) : Shape := ⟨3, ![1, 7680, n]⟩

/-- Group `r % 15` of position `r / 15` at row `r`. -/
def spread (V : (Wide n).Idx → Val e) : (Tall n).Idx → Val e := fun y =>
  V (ix2 (n0 := 512) (n1 := 15 * n) ⟨(y 1).val / 15, by have : (y 1).val < 7680 := (y 1).isLt; omega⟩
    ⟨n * ((y 1).val % 15) + (y 2).val, by
      have h : (y 2).val < n := (y 2).isLt
      have h15 : (y 1).val % 15 + 1 ≤ 15 := Nat.mod_lt _ (by decide)
      have := Nat.mul_le_mul_left n h15
      rw [Nat.mul_add] at this
      omega⟩)

/-- Group `k` of every position is a slice of the lanes. -/
theorem thin_slices (k : Fin 15) : (Wide n).Slices ![0, n * k.val] (Thin n) := by
  refine ⟨rfl, fun a => ?_⟩
  have h15 : k.val + 1 ≤ 15 := k.isLt
  have := Nat.mul_le_mul_left n h15
  rw [Nat.mul_add] at this
  match a with
  | ⟨0, _⟩ => show 0 + 512 ≤ 512; omega
  | ⟨1, _⟩ => show n * k.val + n ≤ 15 * n; omega

/-- A group is stored with a leading axis of one. -/
theorem thin_lifts : (Thin n).ShapeCasts (Lifted n) := by
  show Shape.numel _ = Shape.numel _
  simp [Shape.numel, Fin.prod_univ_succ]

/-- The rows of group `k`: from row `k` in steps of 15. -/
def rowsOf (n : Nat) (k : Fin 15) : Rect (Tall n) where
  off := ![0, k.val, 0]
  size := (Lifted n).size
  stride := ![1, 15, 1]
  inb a := by
    have := k.isLt
    match a with
    | ⟨0, _⟩ => exact Or.inr (show 0 + 1 * (1 - 1) < 1 by omega)
    | ⟨1, _⟩ => exact Or.inr (show k.val + 15 * (512 - 1) < 7680 by omega)
    | ⟨2, _⟩ =>
      rcases Nat.eq_zero_or_pos n with h | h
      · exact Or.inl h
      · exact Or.inr (show 0 + 1 * (n - 1) < n by omega)
  stride_pos a := by
    match a with
    | ⟨0, _⟩ => exact Nat.one_pos
    | ⟨1, _⟩ => show 0 < 15; omega
    | ⟨2, _⟩ => exact Nat.one_pos

/-- The store of group `k` of `V`. -/
def piece (V : (Wide n).Idx → Val e) (k : Fin 15) : View.Piece Val (Tall n) e :=
  ⟨rowsOf n k, shapeCast (Lifted n) (extractStridedSlice (Thin n) ![0, n * k.val] V (thin_slices k)) thin_lifts⟩

/-- The fifteen stores, the last one first. -/
def pieces (V : (Wide n).Idx → Val e) : List (View.Piece Val (Tall n) e) :=
  [piece V 14, piece V 13, piece V 12, piece V 11, piece V 10, piece V 9, piece V 8, piece V 7, piece V 6, piece V 5,
    piece V 4, piece V 3, piece V 2, piece V 1, piece V 0]

/-- Every group is among the pieces; -/
theorem mem_pieces (V : (Wide n).Idx → Val e) (k : Fin 15) : piece V k ∈ pieces V := by
  unfold pieces
  match k with
  | 0 | 1 | 2 | 3 | 4 | 5 | 6 | 7 | 8 | 9 | 10 | 11 | 12 | 13 | 14 => simp

/-- every piece is a group. -/
theorem of_mem_pieces (V : (Wide n).Idx → Val e) (p : View.Piece Val (Tall n) e) (h : p ∈ pieces V) : ∃ k, p = piece V k := by
  simp only [pieces, List.mem_cons, List.not_mem_nil, or_false] at h
  rcases h with h | h | h | h | h | h | h | h | h | h | h | h | h | h | h <;> exact ⟨_, h⟩

/-- Every row lies in the rectangle of its residue modulo 15. -/
theorem cover_pieces (V : (Wide n).Idx → Val e) (y : (Tall n).Idx) : ∃ p ∈ pieces V, y ∈ p.1.set := by
  refine ⟨piece V ⟨(y 1).val % 15, Nat.mod_lt _ (by decide)⟩, mem_pieces V _, ?_⟩
  have h0 : (y 0).val < 1 := (y 0).isLt
  have h1 : (y 1).val < 7680 := (y 1).isLt
  refine (LoadRect.mem_set _).mpr fun a => ?_
  match a with
  | ⟨0, _⟩ => exact ⟨0, Nat.one_pos, show (y 0).val = 0 + 1 * 0 by omega⟩
  | ⟨1, _⟩ => exact ⟨(y 1).val / 15, show (y 1).val / 15 < 512 by omega, show (y 1).val = (y 1).val % 15 + 15 * ((y 1).val / 15) by omega⟩
  | ⟨2, _⟩ => exact ⟨(y 2).val, (y 2).isLt, show (y 2).val = 0 + 1 * (y 2).val by omega⟩

/-- Each store's payload is `spread V` on its own rows. -/
theorem piece_apply (V : (Wide n).Idx → Val e) (k : Fin 15) (x : (Lifted n).Idx) :
    (piece V k).2 x = spread V ((piece V k).1.emb x) := by
  have hk := k.isLt
  have hx0 : (x 0).val < 1 := (x 0).isLt
  have hx1 : (x 1).val < 512 := (x 1).isLt
  have hx2 : (x 2).val < n := (x 2).isLt
  show shapeCast (Lifted n) (extractStridedSlice (Thin n) ![0, n * k.val] V (thin_slices k)) thin_lifts x
    = spread V ((rowsOf n k).emb x)
  refine (shapeCast_addUnit_apply (α := Val e) ![512, n] _ thin_lifts x).trans ?_
  refine (extractStridedSlice_apply (α := Val e) _ V (thin_slices k) _ _ fun a => ?_).trans rfl
  match a with
  | ⟨0, _⟩ => show (k.val + 15 * (x 1).val) / 15 = 0 + (x 1).val; omega
  | ⟨1, _⟩ =>
    show n * ((k.val + 15 * (x 1).val) % 15) + (0 + 1 * (x 2).val) = n * k.val + (x 2).val
    rw [show (k.val + 15 * (x 1).val) % 15 = k.val by omega]
    omega

/-- What the fifteen stores leave, read through any view they went through. -/
theorem read_pieces [∀ e, Nonempty (Val e)] {sig : RefSig} {κ : Kind} {sp : Space} (v : View sig κ sp (Tall n) e)
    (f : v.ty.Contents Val) (V : (Wide n).Idx → Val e) : v.read Val (v.writes Val f (pieces V)) = spread V := by
  refine (View.read_writes_eq_canon v f _ (cover_pieces V)).trans (funext fun y => ?_)
  refine View.canon_apply_of_pieces (spread V) _ (fun p hp x => ?_) y (cover_pieces V y)
  obtain ⟨k, rfl⟩ := of_mem_pieces V p hp
  exact piece_apply V k x

end Cert.Heads

end
-- ==== Proof.Body.lean ====
/-
  THE BODY AT ONE GRID POINT. What the kernel's body computes from the nine input blocks — the padded patch, the shared
  features' accumulator, the class logits, the class probabilities and the box deltas of 512 positions — and the body's
  triple: it leaves every input block as it was and each output block holding its values dealt out group by group
  (`spread`). At any float values.
-/
module

public import proofs.«01_k».proof.Proof.Gen.KernelIdeal.Frame
public import proofs.«01_k».proof.Proof.Gen.KernelIdeal.Skeleton
public import proofs.«01_k».proof.Proof.Gen.KernelIdeal.Points
public import proofs.«01_k».proof.Proof.Gen.KernelIdeal.Launch
public import proofs.«01_k».proof.Proof.Spread
public import Idealize.ShloMosaic.Lib.Tactic
public import Idealize.ShloMosaic.Lib.WordCmp
public import Idealize.ShloMosaic.Lib.Ring

@[expose] public section

set_option maxRecDepth 16384

noncomputable section

namespace Cert.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The boxes the body reads -/

/-- The grid point's own four rows, whole. -/
abbrev rx : Rect S1x4x128x256 := Rect.unit (s := S1x4x128x256) ![0, 0, 0, 0] S1x4x128x256.size inb_S1x4x128x256_S1x4x128x256_0_0_0_0
/-- The row above or below, whole. -/
abbrev rh : Rect S1x1x128x256 := Rect.unit (s := S1x1x128x256) ![0, 0, 0, 0] S1x1x128x256.size inb_S1x1x128x256_S1x1x128x256_0_0_0_0
/-- The weights of tap (0, 0). -/
abbrev rw00 : Rect S3x3x256x512 := Rect.unit (s := S3x3x256x512) ![0, 0, 0, 0] S1x1x256x512.size inb_S3x3x256x512_S1x1x256x512_0_0_0_0
/-- The weights of tap (0, 1). -/
abbrev rw01 : Rect S3x3x256x512 := Rect.unit (s := S3x3x256x512) ![0, 1, 0, 0] S1x1x256x512.size inb_S3x3x256x512_S1x1x256x512_0_1_0_0
/-- The weights of tap (0, 2). -/
abbrev rw02 : Rect S3x3x256x512 := Rect.unit (s := S3x3x256x512) ![0, 2, 0, 0] S1x1x256x512.size inb_S3x3x256x512_S1x1x256x512_0_2_0_0
/-- The weights of tap (1, 0). -/
abbrev rw10 : Rect S3x3x256x512 := Rect.unit (s := S3x3x256x512) ![1, 0, 0, 0] S1x1x256x512.size inb_S3x3x256x512_S1x1x256x512_1_0_0_0
/-- The weights of tap (1, 1). -/
abbrev rw11 : Rect S3x3x256x512 := Rect.unit (s := S3x3x256x512) ![1, 1, 0, 0] S1x1x256x512.size inb_S3x3x256x512_S1x1x256x512_1_1_0_0
/-- The weights of tap (1, 2). -/
abbrev rw12 : Rect S3x3x256x512 := Rect.unit (s := S3x3x256x512) ![1, 2, 0, 0] S1x1x256x512.size inb_S3x3x256x512_S1x1x256x512_1_2_0_0
/-- The weights of tap (2, 0). -/
abbrev rw20 : Rect S3x3x256x512 := Rect.unit (s := S3x3x256x512) ![2, 0, 0, 0] S1x1x256x512.size inb_S3x3x256x512_S1x1x256x512_2_0_0_0
/-- The weights of tap (2, 1). -/
abbrev rw21 : Rect S3x3x256x512 := Rect.unit (s := S3x3x256x512) ![2, 1, 0, 0] S1x1x256x512.size inb_S3x3x256x512_S1x1x256x512_2_1_0_0
/-- The weights of tap (2, 2). -/
abbrev rw22 : Rect S3x3x256x512 := Rect.unit (s := S3x3x256x512) ![2, 2, 0, 0] S1x1x256x512.size inb_S3x3x256x512_S1x1x256x512_2_2_0_0
/-- The convolution's bias, whole. -/
abbrev rbs : Rect S1x512 := Rect.unit (s := S1x512) ![0, 0] S1x512.size inb_S1x512_S1x512_0_0
/-- The class head's weights, whole. -/
abbrev rwc : Rect S512x30 := Rect.unit (s := S512x30) ![0, 0] S512x30.size inb_S512x30_S512x30_0_0
/-- The class head's bias, whole. -/
abbrev rbc : Rect S1x30 := Rect.unit (s := S1x30) ![0, 0] S1x30.size inb_S1x30_S1x30_0_0
/-- The box head's weights, whole. -/
abbrev rwd : Rect S512x60 := Rect.unit (s := S512x60) ![0, 0] S512x60.size inb_S512x60_S512x60_0_0
/-- The box head's bias, whole. -/
abbrev rbd : Rect S1x60 := Rect.unit (s := S1x60) ![0, 0] S1x60.size inb_S1x60_S1x60_0_0

/-! ## What the body computes -/

/-- The padded patch: four rows of the image, the row above, the row below, and a column of zeros on either side. -/
def blkPatch (i : grid0.Coords) (x0 : Vec F S1x4x128x256 .f32) (x1 : Vec F S1x1x128x256 .f32) (x2 : Vec F S1x1x128x256 .f32) : FVec F S6x130x256 .bf16 :=
  k0_pay5 i (View.ld x0 rx) (View.ld x1 rh) (View.ld x2 rh)

/-- The accumulator after the first seven taps. -/
def blkSeven (i : grid0.Coords) (x0 : Vec F S1x4x128x256 .f32) (x1 : Vec F S1x1x128x256 .f32) (x2 : Vec F S1x1x128x256 .f32) (x3 : Vec F S3x3x256x512 .bf16) : FVec F S512x512 .f32 :=
  k0_pay9 (blkPatch i x0 x1 x2) (k0_pay6 i (View.ld x0 rx) (View.ld x1 rh) (View.ld x2 rh) (View.ld x3 rw00))
    (k0_pay7 i (View.ld x0 rx) (View.ld x1 rh) (View.ld x2 rh)) (k0_pay8 (View.ld x3 rw01)) (constant S512x512 .f32 0x00000000#32)
    (View.ld x3 rw02) (View.ld x3 rw10) (View.ld x3 rw11) (View.ld x3 rw12) (View.ld x3 rw20)

/-- The class logits of the 512 positions. -/
def blkLogits (i : grid0.Coords) (x0 : Vec F S1x4x128x256 .f32) (x1 : Vec F S1x1x128x256 .f32) (x2 : Vec F S1x1x128x256 .f32) (x3 : Vec F S3x3x256x512 .bf16) (x4 : Vec F S1x512 .f32) (x5 : Vec F S512x30 .bf16) (x6 : Vec F S1x30 .f32) : FVec F S512x30 .f32 :=
  k0_pay12 (blkPatch i x0 x1 x2) (blkSeven i x0 x1 x2 x3) (k0_pay10 (blkPatch i x0 x1 x2)) (View.ld x3 rw21) (View.ld x3 rw22)
    (View.ld x4 rbs) (View.ld x5 rwc) (View.ld x6 rbc)

/-- The box deltas of the 512 positions. -/
def blkDeltas (i : grid0.Coords) (x0 : Vec F S1x4x128x256 .f32) (x1 : Vec F S1x1x128x256 .f32) (x2 : Vec F S1x1x128x256 .f32) (x3 : Vec F S3x3x256x512 .bf16) (x4 : Vec F S1x512 .f32) (x7 : Vec F S512x60 .bf16) (x8 : Vec F S1x60 .f32) : FVec F S512x60 .f32 :=
  k0_pay13 (blkPatch i x0 x1 x2) (blkSeven i x0 x1 x2 x3) (k0_pay10 (blkPatch i x0 x1 x2)) (View.ld x3 rw21) (View.ld x3 rw22)
    (View.ld x4 rbs) (View.ld x7 rwd) (View.ld x8 rbd)

/-- The class probabilities of logits `l`: the logistic function of each logit less its partner's. -/
def pairProbs (l : FVec F S512x30 .f32) : FVec F S512x30 .f32 :=
  k0_pay14 l (iota .tc S512x30 32 [1] iota_S512x30_d1_w32) 2#32 (Scalar.cmpi .eq 2#32 0#32)

/-- The class probabilities of the 512 positions. -/
def blkProbs (i : grid0.Coords) (x0 : Vec F S1x4x128x256 .f32) (x1 : Vec F S1x1x128x256 .f32) (x2 : Vec F S1x1x128x256 .f32) (x3 : Vec F S3x3x256x512 .bf16) (x4 : Vec F S1x512 .f32) (x5 : Vec F S512x30 .bf16) (x6 : Vec F S1x30 .f32) : FVec F S512x30 .f32 :=
  pairProbs (blkLogits i x0 x1 x2 x3 x4 x5 x6)

/-- The logits' fifteen groups, as the body stores them: the last store first. -/
def logitStores (V : FVec F S512x30 .f32) : List (View.Piece (Elt F) S1x7680x2 .f32) :=
  [
    ⟨⟨(⟨![0, 14, 0], S1x512x2.size, ![1, 15, 1], inb_S1x7680x2_S1x512x2_0_14_0_s_1_15_1⟩ : LoadRect S1x7680x2), spos_1_15_1⟩, k0_pay2 V⟩,
    ⟨⟨(⟨![0, 13, 0], S1x512x2.size, ![1, 15, 1], inb_S1x7680x2_S1x512x2_0_13_0_s_1_15_1⟩ : LoadRect S1x7680x2), spos_1_15_1⟩, k0_pay59 V⟩,
    ⟨⟨(⟨![0, 12, 0], S1x512x2.size, ![1, 15, 1], inb_S1x7680x2_S1x512x2_0_12_0_s_1_15_1⟩ : LoadRect S1x7680x2), spos_1_15_1⟩, k0_pay56 V⟩,
    ⟨⟨(⟨![0, 11, 0], S1x512x2.size, ![1, 15, 1], inb_S1x7680x2_S1x512x2_0_11_0_s_1_15_1⟩ : LoadRect S1x7680x2), spos_1_15_1⟩, k0_pay53 (k0_pay52 V)⟩,
    ⟨⟨(⟨![0, 10, 0], S1x512x2.size, ![1, 15, 1], inb_S1x7680x2_S1x512x2_0_10_0_s_1_15_1⟩ : LoadRect S1x7680x2), spos_1_15_1⟩, k0_pay49 V⟩,
    ⟨⟨(⟨![0, 9, 0], S1x512x2.size, ![1, 15, 1], inb_S1x7680x2_S1x512x2_0_9_0_s_1_15_1⟩ : LoadRect S1x7680x2), spos_1_15_1⟩, k0_pay46 V⟩,
    ⟨⟨(⟨![0, 8, 0], S1x512x2.size, ![1, 15, 1], inb_S1x7680x2_S1x512x2_0_8_0_s_1_15_1⟩ : LoadRect S1x7680x2), spos_1_15_1⟩, k0_pay42 V⟩,
    ⟨⟨(⟨![0, 7, 0], S1x512x2.size, ![1, 15, 1], inb_S1x7680x2_S1x512x2_0_7_0_s_1_15_1⟩ : LoadRect S1x7680x2), spos_1_15_1⟩, k0_pay39 V⟩,
    ⟨⟨(⟨![0, 6, 0], S1x512x2.size, ![1, 15, 1], inb_S1x7680x2_S1x512x2_0_6_0_s_1_15_1⟩ : LoadRect S1x7680x2), spos_1_15_1⟩, k0_pay36 (k0_pay35 V)⟩,
    ⟨⟨(⟨![0, 5, 0], S1x512x2.size, ![1, 15, 1], inb_S1x7680x2_S1x512x2_0_5_0_s_1_15_1⟩ : LoadRect S1x7680x2), spos_1_15_1⟩, k0_pay32 V⟩,
    ⟨⟨(⟨![0, 4, 0], S1x512x2.size, ![1, 15, 1], inb_S1x7680x2_S1x512x2_0_4_0_s_1_15_1⟩ : LoadRect S1x7680x2), spos_1_15_1⟩, k0_pay29 V⟩,
    ⟨⟨(⟨![0, 3, 0], S1x512x2.size, ![1, 15, 1], inb_S1x7680x2_S1x512x2_0_3_0_s_1_15_1⟩ : LoadRect S1x7680x2), spos_1_15_1⟩, k0_pay25 V⟩,
    ⟨⟨(⟨![0, 2, 0], S1x512x2.size, ![1, 15, 1], inb_S1x7680x2_S1x512x2_0_2_0_s_1_15_1⟩ : LoadRect S1x7680x2), spos_1_15_1⟩, k0_pay22 V⟩,
    ⟨⟨(⟨![0, 1, 0], S1x512x2.size, ![1, 15, 1], inb_S1x7680x2_S1x512x2_0_1_0_s_1_15_1⟩ : LoadRect S1x7680x2), spos_1_15_1⟩, k0_pay19 (k0_pay18 V)⟩,
    ⟨⟨(⟨![0, 0, 0], S1x512x2.size, ![1, 15, 1], inb_S1x7680x2_S1x512x2_0_0_0_s_1_15_1⟩ : LoadRect S1x7680x2), spos_1_15_1⟩, k0_pay15 V⟩]

/-- The fifteen stores of logits are the fifteen pieces. -/
theorem logitStores_eq (V : FVec F S512x30 .f32) : logitStores V = pieces (Val := Elt F) (n := 2) V := by
  unfold logitStores pieces
  congr 1
  repeat' (first | rfl | apply congrArg₂ List.cons)

/-- The probabilities' fifteen groups, as the body stores them: the last store first. -/
def probStores (l : FVec F S512x30 .f32) : List (View.Piece (Elt F) S1x7680x2 .f32) :=
  [
    ⟨⟨(⟨![0, 14, 0], S1x512x2.size, ![1, 15, 1], inb_S1x7680x2_S1x512x2_0_14_0_s_1_15_1⟩ : LoadRect S1x7680x2), spos_1_15_1⟩, k0_pay3 (pairProbs l)⟩,
    ⟨⟨(⟨![0, 13, 0], S1x512x2.size, ![1, 15, 1], inb_S1x7680x2_S1x512x2_0_13_0_s_1_15_1⟩ : LoadRect S1x7680x2), spos_1_15_1⟩, k0_pay60 (pairProbs l)⟩,
    ⟨⟨(⟨![0, 12, 0], S1x512x2.size, ![1, 15, 1], inb_S1x7680x2_S1x512x2_0_12_0_s_1_15_1⟩ : LoadRect S1x7680x2), spos_1_15_1⟩, k0_pay57 (pairProbs l)⟩,
    ⟨⟨(⟨![0, 11, 0], S1x512x2.size, ![1, 15, 1], inb_S1x7680x2_S1x512x2_0_11_0_s_1_15_1⟩ : LoadRect S1x7680x2), spos_1_15_1⟩, k0_pay54 (pairProbs l)⟩,
    ⟨⟨(⟨![0, 10, 0], S1x512x2.size, ![1, 15, 1], inb_S1x7680x2_S1x512x2_0_10_0_s_1_15_1⟩ : LoadRect S1x7680x2), spos_1_15_1⟩, k0_pay50 (pairProbs l)⟩,
    ⟨⟨(⟨![0, 9, 0], S1x512x2.size, ![1, 15, 1], inb_S1x7680x2_S1x512x2_0_9_0_s_1_15_1⟩ : LoadRect S1x7680x2), spos_1_15_1⟩, k0_pay47 (pairProbs l)⟩,
    ⟨⟨(⟨![0, 8, 0], S1x512x2.size, ![1, 15, 1], inb_S1x7680x2_S1x512x2_0_8_0_s_1_15_1⟩ : LoadRect S1x7680x2), spos_1_15_1⟩, k0_pay43 (pairProbs l)⟩,
    ⟨⟨(⟨![0, 7, 0], S1x512x2.size, ![1, 15, 1], inb_S1x7680x2_S1x512x2_0_7_0_s_1_15_1⟩ : LoadRect S1x7680x2), spos_1_15_1⟩, k0_pay40 (pairProbs l)⟩,
    ⟨⟨(⟨![0, 6, 0], S1x512x2.size, ![1, 15, 1], inb_S1x7680x2_S1x512x2_0_6_0_s_1_15_1⟩ : LoadRect S1x7680x2), spos_1_15_1⟩, k0_pay37 (pairProbs l)⟩,
    ⟨⟨(⟨![0, 5, 0], S1x512x2.size, ![1, 15, 1], inb_S1x7680x2_S1x512x2_0_5_0_s_1_15_1⟩ : LoadRect S1x7680x2), spos_1_15_1⟩, k0_pay33 (pairProbs l)⟩,
    ⟨⟨(⟨![0, 4, 0], S1x512x2.size, ![1, 15, 1], inb_S1x7680x2_S1x512x2_0_4_0_s_1_15_1⟩ : LoadRect S1x7680x2), spos_1_15_1⟩, k0_pay30 (pairProbs l)⟩,
    ⟨⟨(⟨![0, 3, 0], S1x512x2.size, ![1, 15, 1], inb_S1x7680x2_S1x512x2_0_3_0_s_1_15_1⟩ : LoadRect S1x7680x2), spos_1_15_1⟩, k0_pay26 (pairProbs l)⟩,
    ⟨⟨(⟨![0, 2, 0], S1x512x2.size, ![1, 15, 1], inb_S1x7680x2_S1x512x2_0_2_0_s_1_15_1⟩ : LoadRect S1x7680x2), spos_1_15_1⟩, k0_pay23 (pairProbs l)⟩,
    ⟨⟨(⟨![0, 1, 0], S1x512x2.size, ![1, 15, 1], inb_S1x7680x2_S1x512x2_0_1_0_s_1_15_1⟩ : LoadRect S1x7680x2), spos_1_15_1⟩, k0_pay20 (pairProbs l)⟩,
    ⟨⟨(⟨![0, 0, 0], S1x512x2.size, ![1, 15, 1], inb_S1x7680x2_S1x512x2_0_0_0_s_1_15_1⟩ : LoadRect S1x7680x2), spos_1_15_1⟩, k0_pay16 l (iota .tc S512x30 32 [1] iota_S512x30_d1_w32) 2#32 (Scalar.cmpi .eq 2#32 0#32)⟩]

/-- So are those of probabilities, -/
theorem probStores_eq (l : FVec F S512x30 .f32) : probStores l = pieces (Val := Elt F) (n := 2) (pairProbs l) := by
  unfold probStores pieces
  congr 1
  repeat' (first | rfl | apply congrArg₂ List.cons)

/-- The deltas' fifteen groups, as the body stores them: the last store first. -/
def deltaStores (V : FVec F S512x60 .f32) : List (View.Piece (Elt F) S1x7680x4 .f32) :=
  [
    ⟨⟨(⟨![0, 14, 0], S1x512x4.size, ![1, 15, 1], inb_S1x7680x4_S1x512x4_0_14_0_s_1_15_1⟩ : LoadRect S1x7680x4), spos_1_15_1⟩, k0_pay4 V⟩,
    ⟨⟨(⟨![0, 13, 0], S1x512x4.size, ![1, 15, 1], inb_S1x7680x4_S1x512x4_0_13_0_s_1_15_1⟩ : LoadRect S1x7680x4), spos_1_15_1⟩, k0_pay1 (k0_pay61 V)⟩,
    ⟨⟨(⟨![0, 12, 0], S1x512x4.size, ![1, 15, 1], inb_S1x7680x4_S1x512x4_0_12_0_s_1_15_1⟩ : LoadRect S1x7680x4), spos_1_15_1⟩, k0_pay58 V⟩,
    ⟨⟨(⟨![0, 11, 0], S1x512x4.size, ![1, 15, 1], inb_S1x7680x4_S1x512x4_0_11_0_s_1_15_1⟩ : LoadRect S1x7680x4), spos_1_15_1⟩, k0_pay55 V⟩,
    ⟨⟨(⟨![0, 10, 0], S1x512x4.size, ![1, 15, 1], inb_S1x7680x4_S1x512x4_0_10_0_s_1_15_1⟩ : LoadRect S1x7680x4), spos_1_15_1⟩, k0_pay51 V⟩,
    ⟨⟨(⟨![0, 9, 0], S1x512x4.size, ![1, 15, 1], inb_S1x7680x4_S1x512x4_0_9_0_s_1_15_1⟩ : LoadRect S1x7680x4), spos_1_15_1⟩, k0_pay48 V⟩,
    ⟨⟨(⟨![0, 8, 0], S1x512x4.size, ![1, 15, 1], inb_S1x7680x4_S1x512x4_0_8_0_s_1_15_1⟩ : LoadRect S1x7680x4), spos_1_15_1⟩, k0_pay45 (k0_pay44 V)⟩,
    ⟨⟨(⟨![0, 7, 0], S1x512x4.size, ![1, 15, 1], inb_S1x7680x4_S1x512x4_0_7_0_s_1_15_1⟩ : LoadRect S1x7680x4), spos_1_15_1⟩, k0_pay41 V⟩,
    ⟨⟨(⟨![0, 6, 0], S1x512x4.size, ![1, 15, 1], inb_S1x7680x4_S1x512x4_0_6_0_s_1_15_1⟩ : LoadRect S1x7680x4), spos_1_15_1⟩, k0_pay38 V⟩,
    ⟨⟨(⟨![0, 5, 0], S1x512x4.size, ![1, 15, 1], inb_S1x7680x4_S1x512x4_0_5_0_s_1_15_1⟩ : LoadRect S1x7680x4), spos_1_15_1⟩, k0_pay34 V⟩,
    ⟨⟨(⟨![0, 4, 0], S1x512x4.size, ![1, 15, 1], inb_S1x7680x4_S1x512x4_0_4_0_s_1_15_1⟩ : LoadRect S1x7680x4), spos_1_15_1⟩, k0_pay31 V⟩,
    ⟨⟨(⟨![0, 3, 0], S1x512x4.size, ![1, 15, 1], inb_S1x7680x4_S1x512x4_0_3_0_s_1_15_1⟩ : LoadRect S1x7680x4), spos_1_15_1⟩, k0_pay28 (k0_pay27 V)⟩,
    ⟨⟨(⟨![0, 2, 0], S1x512x4.size, ![1, 15, 1], inb_S1x7680x4_S1x512x4_0_2_0_s_1_15_1⟩ : LoadRect S1x7680x4), spos_1_15_1⟩, k0_pay24 V⟩,
    ⟨⟨(⟨![0, 1, 0], S1x512x4.size, ![1, 15, 1], inb_S1x7680x4_S1x512x4_0_1_0_s_1_15_1⟩ : LoadRect S1x7680x4), spos_1_15_1⟩, k0_pay21 V⟩,
    ⟨⟨(⟨![0, 0, 0], S1x512x4.size, ![1, 15, 1], inb_S1x7680x4_S1x512x4_0_0_0_s_1_15_1⟩ : LoadRect S1x7680x4), spos_1_15_1⟩, k0_pay17 V⟩]

/-- and those of box offsets. -/
theorem deltaStores_eq (V : FVec F S512x60 .f32) : deltaStores V = pieces (Val := Elt F) (n := 4) V := by
  unfold deltaStores pieces
  congr 1
  repeat' (first | rfl | apply congrArg₂ List.cons)

/-! ## The body's triple -/

set_option maxHeartbeats 1600000 in
/-- The body on whole staging buffers, the inputs' at contents `xW` and the outputs' at anything, leaves the inputs' as they
    were and each output's at its values dealt out. -/
theorem sound_kernel (c : Dev nD) (E : Set ℕ) (i : grid0.Coords) (arg2 : Memref sig .tc .vmem S1x4x128x256 .f32) (harg2 : arg2.IsWhole) (arg3 : Memref sig .tc .vmem S1x1x128x256 .f32) (harg3 : arg3.IsWhole) (arg4 : Memref sig .tc .vmem S1x1x128x256 .f32) (harg4 : arg4.IsWhole) (arg5 : Memref sig .tc .vmem S3x3x256x512 .bf16) (harg5 : arg5.IsWhole) (arg6 : Memref sig .tc .vmem S1x512 .f32) (harg6 : arg6.IsWhole) (arg7 : Memref sig .tc .vmem S512x30 .bf16) (harg7 : arg7.IsWhole) (arg8 : Memref sig .tc .vmem S1x30 .f32) (harg8 : arg8.IsWhole) (arg9 : Memref sig .tc .vmem S512x60 .bf16) (harg9 : arg9.IsWhole) (arg10 : Memref sig .tc .vmem S1x60 .f32) (harg10 : arg10.IsWhole) (arg11 : Memref sig .tc .vmem S1x7680x2 .f32) (harg11 : arg11.IsWhole) (arg12 : Memref sig .tc .vmem S1x7680x2 .f32) (harg12 : arg12.IsWhole) (arg13 : Memref sig .tc .vmem S1x7680x4 .f32) (harg13 : arg13.IsWhole)
    (x0 : Vec F S1x4x128x256 .f32) (x1 : Vec F S1x1x128x256 .f32) (x2 : Vec F S1x1x128x256 .f32) (x3 : Vec F S3x3x256x512 .bf16) (x4 : Vec F S1x512 .f32) (x5 : Vec F S512x30 .bf16) (x6 : Vec F S1x30 .f32) (x7 : Vec F S512x60 .bf16) (x8 : Vec F S1x60 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (spread (blkLogits i x0 x1 x2 x3 x4 x5 x6)) ∗ owns (c : Thread nD τ) arg12 fullShare (spread (blkProbs i x0 x1 x2 x3 x4 x5 x6)) ∗ owns (c : Thread nD τ) arg13 fullShare (spread (blkDeltas i x0 x1 x2 x3 x4 x7 x8))) -∗ K ⟨⟩))
      ⊢ wp frame (wpE (defs₀ (F := F)) Variants.none c none) E (cc0__rpn_head_kernel i arg2 harg2 arg3 harg3 arg4 harg4 arg5 harg5 arg6 harg6 arg7 harg7 arg8 harg8 arg9 harg9 arg10 harg10 arg11 harg11 arg12 harg12 arg13 harg13) K := by
  simp only [cc0__rpn_head_kernel_eq_skeleton]; unfold cc0__rpn_head_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine Eq.trans ?_ (read_pieces (Val := Elt F) (n := 2) arg11.view f9 (blkLogits i (arg2.view.read (Elt F) f0) (arg3.view.read (Elt F) f1) (arg4.view.read (Elt F) f2) (arg5.view.read (Elt F) f3) (arg6.view.read (Elt F) f4) (arg7.view.read (Elt F) f5) (arg8.view.read (Elt F) f6)))
    rw [← logitStores_eq]
    rfl
  isplitl [H10]
  · iexists _; isplitr
    swap; · iexact H10
    ipureintro
    refine Eq.trans ?_ (read_pieces (Val := Elt F) (n := 2) arg12.view f10 (blkProbs i (arg2.view.read (Elt F) f0) (arg3.view.read (Elt F) f1) (arg4.view.read (Elt F) f2) (arg5.view.read (Elt F) f3) (arg6.view.read (Elt F) f4) (arg7.view.read (Elt F) f5) (arg8.view.read (Elt F) f6)))
    unfold blkProbs
    rw [← probStores_eq]
    rfl
  iexists _; isplitr
  swap; · iexact H11
  ipureintro
  refine Eq.trans ?_ (read_pieces (Val := Elt F) (n := 4) arg13.view f11 (blkDeltas i (arg2.view.read (Elt F) f0) (arg3.view.read (Elt F) f1) (arg4.view.read (Elt F) f2) (arg5.view.read (Elt F) f3) (arg6.view.read (Elt F) f4) (arg9.view.read (Elt F) f7) (arg10.view.read (Elt F) f8)))
  rw [← deltaStores_eq]
  rfl

end Cert.Heads

end
-- ==== Proof.Run.lean ====
/-
  THE RUN. The pipeline's proof data (each input window at its block, each output window at the body's values dealt out),
  the body obligation, and the run of the whole program from any memory, at any float values: it terminates without a
  fault, every array of the pipeline ends at what the proof data says, and every semaphore counter ends at zero.
-/
module

public import proofs.«01_k».proof.Proof.Body
public import Idealize.ShloMosaic.Lib.Pipeline.FrameBody
public import Idealize.ShloMosaic.Lib.Claim

@[expose] public section

set_option maxRecDepth 16384

noncomputable section

namespace Cert.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The arrays as the region finds them; after the body at point `t` each input's buffer at its block and each output's at its
    values dealt out; nothing owed; each input's share of its array (three windows read the image). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => spread (blkLogits (grid0.coords t) (iblk m c 0 t) (iblk m c 1 t) (iblk m c 2 t) (iblk m c 3 t) (iblk m c 4 t) (iblk m c 5 t) (iblk m c 6 t))
    | ⟨10, _⟩ => spread (blkProbs (grid0.coords t) (iblk m c 0 t) (iblk m c 1 t) (iblk m c 2 t) (iblk m c 3 t) (iblk m c 4 t) (iblk m c 5 t) (iblk m c 6 t))
    | ⟨11, _⟩ => spread (blkDeltas (grid0.coords t) (iblk m c 0 t) (iblk m c 1 t) (iblk m c 2 t) (iblk m c 3 t) (iblk m c 4 t) (iblk m c 7 t) (iblk m c 8 t))
  Φ _ := Pipeline.ΦA spec0 c
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/

/-- Input 0's block is left as it was found. -/
theorem after_0 (c : Dev nD) (t : Fin cfg0.N) : (dats m 0 c).after 0 t = iblk m c 0 t := by dsimp only [dats]
/-- Input 1's block is left as it was found. -/
theorem after_1 (c : Dev nD) (t : Fin cfg0.N) : (dats m 0 c).after 1 t = iblk m c 1 t := by dsimp only [dats]
/-- Input 2's block is left as it was found. -/
theorem after_2 (c : Dev nD) (t : Fin cfg0.N) : (dats m 0 c).after 2 t = iblk m c 2 t := by dsimp only [dats]
/-- Input 3's block is left as it was found. -/
theorem after_3 (c : Dev nD) (t : Fin cfg0.N) : (dats m 0 c).after 3 t = iblk m c 3 t := by dsimp only [dats]
/-- Input 4's block is left as it was found. -/
theorem after_4 (c : Dev nD) (t : Fin cfg0.N) : (dats m 0 c).after 4 t = iblk m c 4 t := by dsimp only [dats]
/-- Input 5's block is left as it was found. -/
theorem after_5 (c : Dev nD) (t : Fin cfg0.N) : (dats m 0 c).after 5 t = iblk m c 5 t := by dsimp only [dats]
/-- Input 6's block is left as it was found. -/
theorem after_6 (c : Dev nD) (t : Fin cfg0.N) : (dats m 0 c).after 6 t = iblk m c 6 t := by dsimp only [dats]
/-- Input 7's block is left as it was found. -/
theorem after_7 (c : Dev nD) (t : Fin cfg0.N) : (dats m 0 c).after 7 t = iblk m c 7 t := by dsimp only [dats]
/-- Input 8's block is left as it was found. -/
theorem after_8 (c : Dev nD) (t : Fin cfg0.N) : (dats m 0 c).after 8 t = iblk m c 8 t := by dsimp only [dats]
/-- The first result's block holds the logits, dealt out to the rows; -/
theorem after_9 (c : Dev nD) (t : Fin cfg0.N) : (dats m 0 c).after 9 t = spread (blkLogits (grid0.coords t) (iblk m c 0 t) (iblk m c 1 t) (iblk m c 2 t) (iblk m c 3 t) (iblk m c 4 t) (iblk m c 5 t) (iblk m c 6 t)) := by dsimp only [dats]
/-- the second's the probabilities; -/
theorem after_10 (c : Dev nD) (t : Fin cfg0.N) : (dats m 0 c).after 10 t = spread (blkProbs (grid0.coords t) (iblk m c 0 t) (iblk m c 1 t) (iblk m c 2 t) (iblk m c 3 t) (iblk m c 4 t) (iblk m c 5 t) (iblk m c 6 t)) := by dsimp only [dats]
/-- the third's the box offsets. -/
theorem after_11 (c : Dev nD) (t : Fin cfg0.N) : (dats m 0 c).after 11 t = spread (blkDeltas (grid0.coords t) (iblk m c 0 t) (iblk m c 1 t) (iblk m c 2 t) (iblk m c 3 t) (iblk m c 4 t) (iblk m c 7 t) (iblk m c 8 t)) := by dsimp only [dats]

/-! Each input's staging buffer holds its block when the body starts, fetched at that point or before. -/

/-- Input 0's block is found as the arguments hold it. -/
theorem before_0 (c : Dev nD) (t : Fin cfg0.N) (d) : (dats m 0 c).before 0 t d = iblk m c 0 t := before0_0_of m (dats m 0 c) (A_eq m c 0) (after_0 m c) t d
/-- Input 1's block is found as the arguments hold it. -/
theorem before_1 (c : Dev nD) (t : Fin cfg0.N) (d) : (dats m 0 c).before 1 t d = iblk m c 1 t := before0_1_of m (dats m 0 c) (A_eq m c 1) (after_1 m c) t d
/-- Input 2's block is found as the arguments hold it. -/
theorem before_2 (c : Dev nD) (t : Fin cfg0.N) (d) : (dats m 0 c).before 2 t d = iblk m c 2 t := before0_2_of m (dats m 0 c) (A_eq m c 2) (after_2 m c) t d
/-- Input 3's block is found as the arguments hold it. -/
theorem before_3 (c : Dev nD) (t : Fin cfg0.N) (d) : (dats m 0 c).before 3 t d = iblk m c 3 t := before0_3_of m (dats m 0 c) (A_eq m c 3) (after_3 m c) t d
/-- Input 4's block is found as the arguments hold it. -/
theorem before_4 (c : Dev nD) (t : Fin cfg0.N) (d) : (dats m 0 c).before 4 t d = iblk m c 4 t := before0_4_of m (dats m 0 c) (A_eq m c 4) (after_4 m c) t d
/-- Input 5's block is found as the arguments hold it. -/
theorem before_5 (c : Dev nD) (t : Fin cfg0.N) (d) : (dats m 0 c).before 5 t d = iblk m c 5 t := before0_5_of m (dats m 0 c) (A_eq m c 5) (after_5 m c) t d
/-- Input 6's block is found as the arguments hold it. -/
theorem before_6 (c : Dev nD) (t : Fin cfg0.N) (d) : (dats m 0 c).before 6 t d = iblk m c 6 t := before0_6_of m (dats m 0 c) (A_eq m c 6) (after_6 m c) t d
/-- Input 7's block is found as the arguments hold it. -/
theorem before_7 (c : Dev nD) (t : Fin cfg0.N) (d) : (dats m 0 c).before 7 t d = iblk m c 7 t := before0_7_of m (dats m 0 c) (A_eq m c 7) (after_7 m c) t d
/-- Input 8's block is found as the arguments hold it. -/
theorem before_8 (c : Dev nD) (t : Fin cfg0.N) (d) : (dats m 0 c).before 8 t d = iblk m c 8 t := before0_8_of m (dats m 0 c) (A_eq m c 8) (after_8 m c) t d

/-! ## The body obligation -/

/-- What the body at point `t` is handed … -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- … and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point, by `sound_kernel` on the blocks; the invariant and what is owed pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body at that point. -/
theorem body_row (t : Fin cfg0.N) : defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
set_option maxHeartbeats 800000 in
/-- The run: every array of the pipeline ends as the proof data says, every other argument as it was, and every semaphore
    counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_arrays : θ_run defs (onTc (τ := τ) (main (F := F))) (s₀ m ρ) (Pipeline.FramePost cfgs (dats m) 0 (V m)) :=
  (θ_run defs _ _).mono (fun _ h => h.1) (run_quiet m ρ)

/-- Every run ends with the arguments unchanged … -/
theorem run_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_arrays m ρ)

/-- … and with every semaphore counter back at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (run_args m ρ) ((θ_run defs _ _).mono (fun _ h => h.2) (run_quiet m ρ))

end Cert.Heads

end
-- ==== Proof.SameText.lean ====
/-
  THE TWO PRINTINGS ARE ONE PROGRAM. The kernel's own printing and its ideal reading are the same text over the float values,
  so the tables of bodies they run are equal, and a run proved for one over any float values is a run of the other.
-/
module

public import proofs.«01_k».proof.Kernel
public import proofs.«01_k».proof.Proof.Run

@[expose] public section

noncomputable section

namespace Cert.Heads

open Idealize.ShloMosaic Idealize.SL.Sem

variable {F : FTy → Type} [FloatOps F] [Cert.Kernel.Facts]

/-- The two body tables agree: at the one label both run the same body. -/
theorem bodies_same : Cert.Kernel.defs₀ (F := F) = Cert.KernelIdeal.defs₀ (F := F) := by
  unfold Cert.Kernel.defs₀ Cert.KernelIdeal.defs₀
  refine congrArg (Defs.onTc (Λ := Cert.KernelIdeal.Λ₀)) (funext fun l => funext fun a => ?_)
  match l, a with
  | 0, (t, s) => rfl
  | ⟨_ + 1, h⟩, _ => exact absurd h (Nat.not_lt.2 (Nat.le_add_left _ _))

/-- So do the tables with the pipeline's own labels. -/
theorem tables_same : Cert.Kernel.defs (F := F) = Cert.KernelIdeal.defs (F := F) :=
  congrArg (Pipeline.defs (Cert.KernelIdeal.pcfgs (F := F))) bodies_same

end Cert.Heads

end
-- ==== Proof.Blocks.lean ====
/-
  THE BLOCKS OF THE WINDOWS, READ AT AN INDEX, over the ideal values. Grid point `(b, i)` takes rows `4·i` to `4·i + 3` of
  picture `b`, the row above them (row 0 where there is none), the row below them (row 127 where there is none), and the
  whole of every weight and bias. Each block is read here as the argument it is cut from.
-/
module

public import proofs.«01_k».proof.Proof.Run
public import Idealize.ShloMosaic.Lib.ValueIdx
public import Idealize.ShloMosaic.Lib.Pipeline.ValueKit

@[expose] public section

set_option maxRecDepth 16384

noncomputable section

namespace Cert.Heads

open Cert.KernelIdeal Cert.KernelIdeal.Gen
open Idealize.ShloMosaic hiding ix1 ix2 ix3 ix4 ix5
open Idealize.ShloMosaic.TcCoe Idealize.ShloMosaic.Tactic Idealize.ShloMosaic.ValueIdx

variable (m : (ℓ : Loc nD τ sig) → Buf (Elt Ideal) ℓ) (c : Dev nD) (t : Fin cfg0.N)

/-! ## The arguments at their places -/

/-- Picture `b` at row `h`, column `w`, channel `k`. -/
def image (b : Fin 2) (h w : Fin 128) (k : Fin 256) : EReal :=
  m ((c.tc : Thread nD τ).loc main_arg0) (ix5 (n0 := 1) (n1 := 2) (n2 := 128) (n3 := 128) (n4 := 256) 0 b h w k)
/-- The weights of the convolution. -/
def wShared (dy dx : Fin 3) (k : Fin 256) (o : Fin 512) : EReal :=
  m ((c.tc : Thread nD τ).loc main_arg1) (ix4 (n0 := 3) (n1 := 3) (n2 := 256) (n3 := 512) dy dx k o)
/-- The bias of the convolution. -/
def bShared (o : Fin 512) : EReal := m ((c.tc : Thread nD τ).loc main_arg2) (ix1 (n := 512) o)
/-- The weights of the class head. -/
def wClass (o : Fin 512) (l : Fin 30) : EReal :=
  m ((c.tc : Thread nD τ).loc main_arg3) (ix4 (n0 := 1) (n1 := 1) (n2 := 512) (n3 := 30) 0 0 o l)
/-- The bias of the class head. -/
def bClass (l : Fin 30) : EReal := m ((c.tc : Thread nD τ).loc main_arg4) (ix1 (n := 30) l)
/-- The weights of the box head. -/
def wBox (o : Fin 512) (l : Fin 60) : EReal :=
  m ((c.tc : Thread nD τ).loc main_arg5) (ix4 (n0 := 1) (n1 := 1) (n2 := 512) (n3 := 60) 0 0 o l)
/-- The bias of the box head. -/
def bBox (l : Fin 60) : EReal := m ((c.tc : Thread nD τ).loc main_arg6) (ix1 (n := 60) l)

/-! ## The arrays the windows are cut from -/

/-- The pictures as the pipeline finds them: the first argument without its leading axis. -/
theorem reads_image (b : Fin 2) (h w : Fin 128) (k : Fin 256) :
    V m c main_v0 (ix4 (n0 := 2) (n1 := 128) (n2 := 128) (n3 := 256) b h w k) = image m c b h w k := by
  entry_read
  refine shapeCast_apply (s := ⟨5, ![1, 2, 128, 128, 256]⟩) (t := ⟨4, ![2, 128, 128, 256]⟩) _ _ _ (ix5 (n0 := 1) 0 b h w k) ?_
  rw [Shape.rowMajor_val_five, Shape.rowMajor_val_four]
  show (((0 * 2 + b.val) * 128 + h.val) * 128 + w.val) * 256 + k.val = ((b.val * 128 + h.val) * 128 + w.val) * 256 + k.val
  omega

/-- The convolution's weights as the pipeline finds them. -/
theorem reads_wShared (dy dx : Fin 3) (k : Fin 256) (o : Fin 512) :
    V m c main_v1 (ix4 (n0 := 3) (n1 := 3) (n2 := 256) (n3 := 512) dy dx k o) = wShared m c dy dx k o := by
  entry_read
  rfl

/-- A row of `N` values read from the list of them. -/
theorem row_of_list {N : Nat} {α : Type} (x : (⟨1, ![N]⟩ : Shape).Idx → α) (h : (⟨1, ![N]⟩ : Shape).ShapeCasts ⟨2, ![1, N]⟩) (o : Fin N) :
    shapeCast ⟨2, ![1, N]⟩ x h (ix2 0 o) = x (ix1 o) := by
  refine shapeCast_apply x h _ _ ?_
  rw [Shape.rowMajor_val_one, Shape.rowMajor_val_two]
  show o.val = 0 * N + o.val
  omega

/-- A table of `K` rows of `N` values under two unit axes. -/
theorem table_of_unit {K N : Nat} {α : Type} (x : (⟨4, ![1, 1, K, N]⟩ : Shape).Idx → α)
    (h : (⟨4, ![1, 1, K, N]⟩ : Shape).ShapeCasts ⟨2, ![K, N]⟩) (o : Fin K) (l : Fin N) :
    shapeCast ⟨2, ![K, N]⟩ x h (ix2 o l) = x (ix4 0 0 o l) := by
  refine shapeCast_apply x h _ _ ?_
  rw [Shape.rowMajor_val_four, Shape.rowMajor_val_two]
  show ((0 * 1 + 0) * K + o.val) * N + l.val = o.val * N + l.val
  simp only [Nat.zero_mul, Nat.zero_add]

/-- The convolution's bias, as one row. -/
theorem reads_bShared (o : Fin 512) : V m c main_v6 (ix2 (n0 := 1) (n1 := 512) 0 o) = bShared m c o := by
  entry_read
  exact row_of_list _ _ o

/-- The class head's weights, as a table. -/
theorem reads_wClass (o : Fin 512) (l : Fin 30) : V m c main_v3 (ix2 (n0 := 512) (n1 := 30) o l) = wClass m c o l := by
  entry_read
  exact table_of_unit _ _ o l

/-- The class head's bias, as one row. -/
theorem reads_bClass (l : Fin 30) : V m c main_v7 (ix2 (n0 := 1) (n1 := 30) 0 l) = bClass m c l := by
  entry_read
  exact row_of_list _ _ l

/-- The box head's weights, as a table. -/
theorem reads_wBox (o : Fin 512) (l : Fin 60) : V m c main_v5 (ix2 (n0 := 512) (n1 := 60) o l) = wBox m c o l := by
  entry_read
  exact table_of_unit _ _ o l

/-- The box head's bias, as one row. -/
theorem reads_bBox (l : Fin 60) : V m c main_v8 (ix2 (n0 := 1) (n1 := 60) 0 l) = bBox m c l := by
  entry_read
  exact row_of_list _ _ l

/-! ## The index maps, decided over the grid's points -/

/-- Which block of the pictures a grid point reads as its own four rows, … -/
theorem index_own : ∀ t : Fin cfg0.N, win0_0.index t = ![(grid0.coords t 0).val, (grid0.coords t 1).val, 0, 0] :=
  (by decide +kernel : ∀ t : Fin grid0.N, _)
/-- … as the row above, … -/
theorem index_above : ∀ t : Fin cfg0.N, win0_1.index t = ![(grid0.coords t 0).val, 4 * (grid0.coords t 1).val - 1, 0, 0] :=
  (by decide +kernel : ∀ t : Fin grid0.N, _)
/-- … and as the row below. -/
theorem index_below : ∀ t : Fin cfg0.N, win0_2.index t = ![(grid0.coords t 0).val, min (4 * (grid0.coords t 1).val + 4) 127, 0, 0] :=
  (by decide +kernel : ∀ t : Fin grid0.N, _)
/-- The convolution's weights are one block. -/
theorem index_taps : ∀ t : Fin cfg0.N, win0_3.index t = ![0, 0, 0, 0] := (by decide +kernel : ∀ t : Fin grid0.N, _)
/-- The biases and the heads' weights are one block each. -/
theorem index_whole : ∀ t : Fin cfg0.N, win0_4.index t = ![0, 0] ∧ win0_5.index t = ![0, 0] ∧ win0_6.index t = ![0, 0]
    ∧ win0_7.index t = ![0, 0] ∧ win0_8.index t = ![0, 0] := (by decide +kernel : ∀ t : Fin grid0.N, _)
/-- Which block of each result a grid point writes. -/
theorem index_out : ∀ t : Fin cfg0.N, win0_9.index t = ![(grid0.coords t 0).val, (grid0.coords t 1).val, 0]
    ∧ win0_10.index t = ![(grid0.coords t 0).val, (grid0.coords t 1).val, 0]
    ∧ win0_11.index t = ![(grid0.coords t 0).val, (grid0.coords t 1).val, 0] := (by decide +kernel : ∀ t : Fin grid0.N, _)

/-- The picture of grid point `t`. -/
def pic : Fin 2 := grid0.coords t 0
/-- The strip of four rows of grid point `t`. -/
def strip : Fin 32 := grid0.coords t 1

/-! ## The blocks -/

/-- The four rows of the point's own. -/
theorem block_own (r : Fin 4) (s : Fin 128) (k : Fin 256) :
    iblk m c 0 t (ix4 (n0 := 1) (n1 := 4) (n2 := 128) (n3 := 256) 0 r s k)
      = image m c (pic t) ⟨4 * (strip t).val + r.val, by omega⟩ s k := by
  rw [← reads_image]
  blk_ext [iblk, index_own t, pic, strip]
  show (grid0.coords t 1).val * 4 + r.val = 4 * (grid0.coords t 1).val + r.val
  omega

/-- The row above, where there is one. -/
theorem block_above (h0 : (strip t).val ≠ 0) (s : Fin 128) (k : Fin 256) :
    iblk m c 1 t (ix4 (n0 := 1) (n1 := 1) (n2 := 128) (n3 := 256) 0 0 s k)
      = image m c (pic t) ⟨4 * (strip t).val - 1, by omega⟩ s k := by
  rw [← reads_image]
  blk_ext [iblk, index_above t, pic, strip]

/-- The row below, where there is one. -/
theorem block_below (h0 : (strip t).val ≠ 31) (s : Fin 128) (k : Fin 256) :
    iblk m c 2 t (ix4 (n0 := 1) (n1 := 1) (n2 := 128) (n3 := 256) 0 0 s k)
      = image m c (pic t) ⟨4 * (strip t).val + 4, by omega⟩ s k := by
  rw [← reads_image]
  blk_ext [iblk, index_below t, pic, strip]
  have h1 : (grid0.coords t 1).val ≠ 31 := h0
  have h2 : (grid0.coords t 1).val < 32 := (grid0.coords t 1).isLt
  omega

/-- The weights of the convolution, whole. -/
theorem block_wShared (dy dx : Fin 3) (k : Fin 256) (o : Fin 512) :
    iblk m c 3 t (ix4 (n0 := 3) (n1 := 3) (n2 := 256) (n3 := 512) dy dx k o) = wShared m c dy dx k o := by
  rw [← reads_wShared]
  blk_ext [iblk, index_taps t]

/-- The bias of the convolution, whole. -/
theorem block_bShared (o : Fin 512) : iblk m c 4 t (ix2 (n0 := 1) (n1 := 512) 0 o) = bShared m c o := by
  rw [← reads_bShared]
  blk_ext [iblk, index_whole t]

/-- The weights of the class head, whole. -/
theorem block_wClass (o : Fin 512) (l : Fin 30) : iblk m c 5 t (ix2 (n0 := 512) (n1 := 30) o l) = wClass m c o l := by
  rw [← reads_wClass]
  blk_ext [iblk, index_whole t]

/-- The bias of the class head, whole. -/
theorem block_bClass (l : Fin 30) : iblk m c 6 t (ix2 (n0 := 1) (n1 := 30) 0 l) = bClass m c l := by
  rw [← reads_bClass]
  blk_ext [iblk, index_whole t]

/-- The weights of the box head, whole. -/
theorem block_wBox (o : Fin 512) (l : Fin 60) : iblk m c 7 t (ix2 (n0 := 512) (n1 := 60) o l) = wBox m c o l := by
  rw [← reads_wBox]
  blk_ext [iblk, index_whole t]

/-- The bias of the box head, whole. -/
theorem block_bBox (l : Fin 60) : iblk m c 8 t (ix2 (n0 := 1) (n1 := 60) 0 l) = bBox m c l := by
  rw [← reads_bBox]
  blk_ext [iblk, index_whole t]

end Cert.Heads

end
-- ==== Proof.Taps.lean ====
/-
  THE SHARED FEATURES OF A BLOCK, READ AT AN INDEX, over the ideal values. A tap of the 3 × 3 convolution is a product of
  the patch's rows, moved by the tap, with the tap's 256 × 512 weights: a sum of 256 products at a position and a feature.
  The nine taps are added in turn, the bias is added, and the result is held between 0 and 6.
-/
module

public import proofs.«01_k».proof.Proof.Body
public import Idealize.ShloMosaic.Lib.ValueIdx
public import Idealize.ShloMosaic.Lib.Pipeline.ValueKit.Tiles
public import Idealize.ShloMosaic.PureOps.Ideal.Laws

@[expose] public section

set_option maxRecDepth 16384

noncomputable section

namespace Cert.Heads

open Cert.KernelIdeal Cert.KernelIdeal.Gen
open Idealize.ShloMosaic Idealize.ShloMosaic.ValueIdx

/-- A product with one contracted axis of extent `K` into zeros, at row `r` and column `s`: the sum over the axis. -/
theorem product_apply {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (a : FVec Ideal ⟨2, ![M, K]⟩ φ₁) (b : FVec Ideal ⟨2, ![K, N]⟩ φ₂) (r : Fin M) (s : Fin N) :
    matmul D none a b (constant ⟨2, ![M, N]⟩ .f32 0x00000000#32) (ix2 r s) = ∑ k : Fin K, a (ix2 r k) * b (ix2 k s) := by
  refine (Ideal.matmul_constant_zero_apply D none a b (ix2 r s)).trans ?_
  rw [← Equiv.sum_comp (contrEquiv1 D K hr hs).symm]
  refine Finset.sum_congr rfl fun k _ => ?_
  have hk := contrEquiv1_symm_val D K hr hs k
  congr 1
  · exact congrArg a (Shape.idx_ext₂ (hl0 _ _) ((hl1 _ _).trans hk))
  · exact congrArg b (Shape.idx_ext₂ ((hr0 _ _).trans hk) (hr1 _ _))

/-- The taps' product at a position and a feature. -/
theorem product_shared (a : FVec Ideal S512x256 .bf16) (b : FVec Ideal S256x512 .bf16) (r : Fin 512) (s : Fin 512) :
    matmul dot_S512x256_S256x512_S512x512_1_0_0_1_n_n none a b (constant S512x512 .f32 0x00000000#32) (ix2 r s)
      = ∑ k : Fin 256, a (ix2 r k) * b (ix2 k s) :=
  product_apply dot_S512x256_S256x512_S512x512_1_0_0_1_n_n rfl rfl (fun _ _ => rfl) (fun _ _ => rfl) (fun _ _ => rfl) (fun _ _ => rfl) a b r s

/-- The class head's product at a position and a lane. -/
theorem product_class (a : FVec Ideal S512x512 .bf16) (b : FVec Ideal S512x30 .bf16) (r : Fin 512) (s : Fin 30) :
    matmul dot_S512x512_S512x30_S512x30_1_0_0_1_n_n none a b (constant S512x30 .f32 0x00000000#32) (ix2 r s)
      = ∑ k : Fin 512, a (ix2 r k) * b (ix2 k s) :=
  product_apply dot_S512x512_S512x30_S512x30_1_0_0_1_n_n rfl rfl (fun _ _ => rfl) (fun _ _ => rfl) (fun _ _ => rfl) (fun _ _ => rfl) a b r s

/-- The box head's product at a position and a lane. -/
theorem product_box (a : FVec Ideal S512x512 .bf16) (b : FVec Ideal S512x60 .bf16) (r : Fin 512) (s : Fin 60) :
    matmul dot_S512x512_S512x60_S512x60_1_0_0_1_n_n none a b (constant S512x60 .f32 0x00000000#32) (ix2 r s)
      = ∑ k : Fin 512, a (ix2 r k) * b (ix2 k s) :=
  product_apply dot_S512x512_S512x60_S512x60_1_0_0_1_n_n rfl rfl (fun _ _ => rfl) (fun _ _ => rfl) (fun _ _ => rfl) (fun _ _ => rfl) a b r s

/-! ## A tap -/

/-- The patch's 512 positions moved by `(dy, dx)`, one row per position. -/
def moved (dy dx : Nat) (h : S6x130x256.Slices ![dy, dx, 0] S4x128x256) (p : FVec Ideal S6x130x256 .bf16) : FVec Ideal S512x256 .bf16 :=
  shapeCast S512x256 (extractStridedSlice S4x128x256 ![dy, dx, 0] p h) shapeCasts_S4x128x256_S512x256

/-- The patch moved by a tap, at a position. -/
theorem moved_apply (dy dx : Nat) (h : S6x130x256.Slices ![dy, dx, 0] S4x128x256) (hy : dy < 3) (hx : dx < 3)
    (p : FVec Ideal S6x130x256 .bf16) (q : Fin 512) (k : Fin 256) :
    moved dy dx h p (ix2 q k) = p (ix3 (n0 := 6) (n1 := 130) ⟨dy + q.val / 128, by omega⟩ ⟨dx + q.val % 128, by omega⟩ k) := by
  refine (shapeCast_apply _ _ (ix2 q k) (ix3 (n0 := 4) (n1 := 128) ⟨q.val / 128, by omega⟩ ⟨q.val % 128, by omega⟩ k) ?_).trans ?_
  · rw [Shape.rowMajor_val_three, Shape.rowMajor_val_two]
    show (q.val / 128 * 128 + q.val % 128) * 256 + k.val = q.val * 256 + k.val
    omega
  · refine extractStridedSlice_apply _ _ _ _ _ fun a => ?_
    match a with
    | ⟨0, _⟩ => rfl
    | ⟨1, _⟩ => rfl
    | ⟨2, _⟩ => exact (Nat.zero_add _).symm

/-- A tap's weights as a matrix. -/
def flatW (w : Vec Ideal S1x1x256x512 .bf16) : FVec Ideal S256x512 .bf16 :=
  shapeCast S256x512 w shapeCasts_S1x1x256x512_S256x512

/-- A tap's weights as a table. -/
theorem flatW_apply (w : Vec Ideal S1x1x256x512 .bf16) (k : Fin 256) (o : Fin 512) :
    flatW w (ix2 k o) = w (ix4 (n0 := 1) (n1 := 1) 0 0 k o) := by
  refine shapeCast_apply _ _ (ix2 k o) (ix4 (n0 := 1) (n1 := 1) 0 0 k o) ?_
  rw [Shape.rowMajor_val_four, Shape.rowMajor_val_two]
  show ((0 * 1 + 0) * 256 + k.val) * 512 + o.val = k.val * 512 + o.val
  omega

/-- The weights of tap `(dy, dx)`, loaded out of all nine taps', at an index. -/
theorem ld_tap (dy dx : Nat) (hy : dy < 3) (hx : dx < 3) (w : Vec Ideal S3x3x256x512 .bf16)
    (inb : ∀ a, (![dy, dx, 0, 0] : Fin 4 → Nat) a + S1x1x256x512.size a ≤ S3x3x256x512.size a) (k : Fin 256) (o : Fin 512) :
    View.ld w (Rect.unit (s := S3x3x256x512) ![dy, dx, 0, 0] S1x1x256x512.size inb) (ix4 (n0 := 1) (n1 := 1) 0 0 k o)
      = w (ix4 (n0 := 3) (n1 := 3) ⟨dy, hy⟩ ⟨dx, hx⟩ k o) := by
  refine View.ld_unit_apply_of w _ _ inb _ _ fun a => ?_
  match a with
  | ⟨0, _⟩ => rfl
  | ⟨1, _⟩ => rfl
  | ⟨2, _⟩ => exact (Nat.zero_add _).symm
  | ⟨3, _⟩ => exact (Nat.zero_add _).symm

/-- The sum a tap adds at position `q` and feature `o`. -/
def tapSum (p : FVec Ideal S6x130x256 .bf16) (w : Vec Ideal S3x3x256x512 .bf16) (q o : Fin 512) (dy dx : Fin 3) : EReal :=
  ∑ k : Fin 256, p (ix3 (n0 := 6) (n1 := 130) ⟨dy.val + q.val / 128, by omega⟩ ⟨dx.val + q.val % 128, by omega⟩ k) * w (ix4 dy dx k o)

/-- A tap of the convolution at a position and a feature. -/
theorem tap_apply (dy dx : Nat) (h : S6x130x256.Slices ![dy, dx, 0] S4x128x256) (hy : dy < 3) (hx : dx < 3)
    (inb : ∀ a, (![dy, dx, 0, 0] : Fin 4 → Nat) a + S1x1x256x512.size a ≤ S3x3x256x512.size a)
    (p : FVec Ideal S6x130x256 .bf16) (w : Vec Ideal S3x3x256x512 .bf16) (q o : Fin 512) :
    matmul dot_S512x256_S256x512_S512x512_1_0_0_1_n_n none (moved dy dx h p)
        (flatW (View.ld w (Rect.unit (s := S3x3x256x512) ![dy, dx, 0, 0] S1x1x256x512.size inb)))
        (constant S512x512 .f32 0x00000000#32) (ix2 q o)
      = tapSum p w q o ⟨dy, hy⟩ ⟨dx, hx⟩ := by
  refine (product_shared _ _ q o).trans (Finset.sum_congr rfl fun k _ => ?_)
  rw [moved_apply dy dx h hy hx, flatW_apply, ld_tap dy dx hy hx]

/-! ## The features -/

/-- Two zero offsets are the zero function. -/
theorem zero_offsets : (![0, 0] : Fin 2 → Nat) = fun _ => 0 := by decide

/-- A bias row spread over the positions. -/
theorem bias_apply {M N : Nat} (x : (⟨2, ![1, N]⟩ : Shape).Idx → EReal) (hc : (⟨2, ![1, N]⟩ : Shape).ShapeCasts ⟨2, ![1, N]⟩)
    (hb : (⟨2, ![1, N]⟩ : Shape).Broadcasts ⟨2, ![M, N]⟩) (r : Fin M) (s : Fin N) :
    broadcastTo ⟨2, ![M, N]⟩ (shapeCast ⟨2, ![1, N]⟩ x hc) hb (ix2 r s) = x (ix2 0 s) := by
  rw [shapeCast_self]
  refine broadcastTo_apply _ _ _ (ix2 (n0 := 1) 0 s) fun a => ?_
  match a with
  | ⟨0, _⟩ => rfl
  | ⟨1, _⟩ =>
    show s.val = if N = 1 then 0 else s.val
    split
    · omega
    · rfl

/-- A whole weight matrix, loaded and recast to its own shape. -/
theorem weights_apply {K N : Nat} (x : Vec Ideal ⟨2, ![K, N]⟩ .bf16) {off : Fin 2 → Nat} (h : off = fun _ => 0)
    (inb : ∀ a, off a + (⟨2, ![K, N]⟩ : Shape).size a ≤ (⟨2, ![K, N]⟩ : Shape).size a)
    (hc : (⟨2, ![K, N]⟩ : Shape).ShapeCasts ⟨2, ![K, N]⟩) (r : Fin K) (s : Fin N) :
    shapeCast ⟨2, ![K, N]⟩ (View.ld x (Rect.unit (s := ⟨2, ![K, N]⟩) off _ inb)) hc (ix2 r s) = x (ix2 r s) := by
  rw [View.ld_unit_zero h]
  exact congrFun (shapeCast_self _ _) _

/-- The nine taps in the order the kernel adds them. -/
def tapsSum (t : Fin 3 → Fin 3 → EReal) : EReal :=
  0 + t 0 0 + t 0 1 + t 0 2 + t 1 0 + t 1 1 + t 1 2 + t 2 0 + t 2 1 + t 2 2

/-- A feature from its accumulated taps and its bias: the sum held between 0 and 6. -/
def held (acc bias : EReal) : EReal := min (Ideal.ofBits .f32 0x40C00000#32) (max 0 (acc + bias))

/-- The accumulator after seven taps. -/
theorem seven_apply (i : grid0.Coords) (x0 : Vec Ideal S1x4x128x256 .f32) (x1 : Vec Ideal S1x1x128x256 .f32) (x2 : Vec Ideal S1x1x128x256 .f32)
    (x3 : Vec Ideal S3x3x256x512 .bf16) (q o : Fin 512) :
    blkSeven i x0 x1 x2 x3 (ix2 q o)
      = 0 + tapSum (blkPatch i x0 x1 x2) x3 q o 0 0 + tapSum (blkPatch i x0 x1 x2) x3 q o 0 1 + tapSum (blkPatch i x0 x1 x2) x3 q o 0 2
        + tapSum (blkPatch i x0 x1 x2) x3 q o 1 0 + tapSum (blkPatch i x0 x1 x2) x3 q o 1 1 + tapSum (blkPatch i x0 x1 x2) x3 q o 1 2
        + tapSum (blkPatch i x0 x1 x2) x3 q o 2 0 := by
  have z : Ideal.ofBits .f32 0x00000000#32 = 0 := Ideal.ofBits_zero_f32
  have t00 := tap_apply 0 0 slices_S6x130x256_o0_0_0_S4x128x256 (by decide) (by decide) inb_S3x3x256x512_S1x1x256x512_0_0_0_0 (blkPatch i x0 x1 x2) x3 q o
  have t01 := tap_apply 0 1 slices_S6x130x256_o0_1_0_S4x128x256 (by decide) (by decide) inb_S3x3x256x512_S1x1x256x512_0_1_0_0 (blkPatch i x0 x1 x2) x3 q o
  have t02 := tap_apply 0 2 slices_S6x130x256_o0_2_0_S4x128x256 (by decide) (by decide) inb_S3x3x256x512_S1x1x256x512_0_2_0_0 (blkPatch i x0 x1 x2) x3 q o
  have t10 := tap_apply 1 0 slices_S6x130x256_o1_0_0_S4x128x256 (by decide) (by decide) inb_S3x3x256x512_S1x1x256x512_1_0_0_0 (blkPatch i x0 x1 x2) x3 q o
  have t11 := tap_apply 1 1 slices_S6x130x256_o1_1_0_S4x128x256 (by decide) (by decide) inb_S3x3x256x512_S1x1x256x512_1_1_0_0 (blkPatch i x0 x1 x2) x3 q o
  have t12 := tap_apply 1 2 slices_S6x130x256_o1_2_0_S4x128x256 (by decide) (by decide) inb_S3x3x256x512_S1x1x256x512_1_2_0_0 (blkPatch i x0 x1 x2) x3 q o
  have t20 := tap_apply 2 0 slices_S6x130x256_o2_0_0_S4x128x256 (by decide) (by decide) inb_S3x3x256x512_S1x1x256x512_2_0_0_0 (blkPatch i x0 x1 x2) x3 q o
  exact congrArg₂ (· + ·) (congrArg₂ (· + ·) (congrArg₂ (· + ·) (congrArg₂ (· + ·) (congrArg₂ (· + ·) (congrArg₂ (· + ·)
    (congrArg₂ (· + ·) z t00) t01) t02) t10) t11) t12) t20

/-- The features of a block: held between 0 and 6, from the nine taps and the bias. -/
theorem features_apply (i : grid0.Coords) (x0 : Vec Ideal S1x4x128x256 .f32) (x1 : Vec Ideal S1x1x128x256 .f32) (x2 : Vec Ideal S1x1x128x256 .f32)
    (x3 : Vec Ideal S3x3x256x512 .bf16) (x4 : Vec Ideal S1x512 .f32) (q o : Fin 512) :
    k0_pay11 (blkPatch i x0 x1 x2) (blkSeven i x0 x1 x2 x3) (k0_pay10 (blkPatch i x0 x1 x2)) (View.ld x3 rw21) (View.ld x3 rw22)
        (View.ld x4 rbs) (ix2 q o)
      = held (tapsSum (tapSum (blkPatch i x0 x1 x2) x3 q o)) (x4 (ix2 0 o)) := by
  have z : Ideal.ofBits .f32 0x00000000#32 = 0 := Ideal.ofBits_zero_f32
  have t21 := tap_apply 2 1 slices_S6x130x256_o2_1_0_S4x128x256 (by decide) (by decide) inb_S3x3x256x512_S1x1x256x512_2_1_0_0 (blkPatch i x0 x1 x2) x3 q o
  have t22 := tap_apply 2 2 slices_S6x130x256_o2_2_0_S4x128x256 (by decide) (by decide) inb_S3x3x256x512_S1x1x256x512_2_2_0_0 (blkPatch i x0 x1 x2) x3 q o
  have hb := (bias_apply (M := 512) (View.ld x4 rbs) shapeCasts_S1x512_S1x512 broadcasts_S1x512_S512x512 q o).trans
    (congrFun (View.ld_unit_zero zero_offsets _ x4) _)
  exact congrArg (min _) (congrArg₂ max z (congrArg₂ (· + ·) (congrArg₂ (· + ·) (congrArg₂ (· + ·)
    (seven_apply i x0 x1 x2 x3 q o) t21) t22) hb))

/-- The class logits of a block. -/
theorem logits_apply (i : grid0.Coords) (x0 : Vec Ideal S1x4x128x256 .f32) (x1 : Vec Ideal S1x1x128x256 .f32) (x2 : Vec Ideal S1x1x128x256 .f32)
    (x3 : Vec Ideal S3x3x256x512 .bf16) (x4 : Vec Ideal S1x512 .f32) (x5 : Vec Ideal S512x30 .bf16) (x6 : Vec Ideal S1x30 .f32)
    (q : Fin 512) (l : Fin 30) :
    blkLogits i x0 x1 x2 x3 x4 x5 x6 (ix2 q l)
      = (∑ o : Fin 512, held (tapsSum (tapSum (blkPatch i x0 x1 x2) x3 q o)) (x4 (ix2 0 o)) * x5 (ix2 o l)) + x6 (ix2 0 l) := by
  have hb := (bias_apply (M := 512) (View.ld x6 rbc) shapeCasts_S1x30_S1x30 broadcasts_S1x30_S512x30 q l).trans
    (congrFun (View.ld_unit_zero zero_offsets _ x6) _)
  refine congrArg₂ (· + ·) ((product_class _ _ q l).trans (Finset.sum_congr rfl fun o _ => congrArg₂ (· * ·)
    (features_apply i x0 x1 x2 x3 x4 q o) ?_)) hb
  exact weights_apply _ zero_offsets _ _ _ _

/-- The box deltas of a block. -/
theorem deltas_apply (i : grid0.Coords) (x0 : Vec Ideal S1x4x128x256 .f32) (x1 : Vec Ideal S1x1x128x256 .f32) (x2 : Vec Ideal S1x1x128x256 .f32)
    (x3 : Vec Ideal S3x3x256x512 .bf16) (x4 : Vec Ideal S1x512 .f32) (x7 : Vec Ideal S512x60 .bf16) (x8 : Vec Ideal S1x60 .f32)
    (q : Fin 512) (l : Fin 60) :
    blkDeltas i x0 x1 x2 x3 x4 x7 x8 (ix2 q l)
      = (∑ o : Fin 512, held (tapsSum (tapSum (blkPatch i x0 x1 x2) x3 q o)) (x4 (ix2 0 o)) * x7 (ix2 o l)) + x8 (ix2 0 l) := by
  have hb := (bias_apply (M := 512) (View.ld x8 rbd) shapeCasts_S1x60_S1x60 broadcasts_S1x60_S512x60 q l).trans
    (congrFun (View.ld_unit_zero zero_offsets _ x8) _)
  refine congrArg₂ (· + ·) ((product_box _ _ q l).trans (Finset.sum_congr rfl fun o _ => congrArg₂ (· * ·)
    (features_apply i x0 x1 x2 x3 x4 q o) ?_)) hb
  exact weights_apply _ zero_offsets _ _ _ _

end Cert.Heads

end
-- ==== Proof.Patch.lean ====
/-
  THE PADDED PATCH, READ AT AN INDEX, over the ideal values: six rows of 130 columns. The first and last columns are zero;
  between them row 0 is the row above (zero at the first block of an image), rows 1 to 4 are the block's own rows, and row
  5 is the row below (zero at the last block).
-/
module

public import proofs.«01_k».proof.Proof.Taps

@[expose] public section

set_option maxRecDepth 16384

noncomputable section

namespace Cert.Heads

open Cert.KernelIdeal Cert.KernelIdeal.Gen
open Idealize.ShloMosaic Idealize.ShloMosaic.ValueIdx

variable (i : grid0.Coords) (x0 : Vec Ideal S1x4x128x256 .f32) (x1 : Vec Ideal S1x1x128x256 .f32) (x2 : Vec Ideal S1x1x128x256 .f32)

/-- The row above, or zeros at the first block. -/
def rowAbove : FVec Ideal S1x128x256 .bf16 :=
  Scalar.select (Scalar.cmpi .eq (BitVec.ofNat 32 (i 1).val) 0#32) (broadcast S1x128x256 (Scalar.ofBits .bf16 0x0000#16))
    (truncf .bf16 (shapeCast S1x128x256 (View.ld x1 rh) shapeCasts_S1x1x128x256_S1x128x256) bitsLt_bf16_f32)

/-- The row below, or zeros at the last block. -/
def rowBelow : FVec Ideal S1x128x256 .bf16 :=
  Scalar.select (Scalar.cmpi .eq (BitVec.ofNat 32 (i 1).val) 31#32) (broadcast S1x128x256 (Scalar.ofBits .bf16 0x0000#16))
    (truncf .bf16 (shapeCast S1x128x256 (View.ld x2 rh) shapeCasts_S1x1x128x256_S1x128x256) bitsLt_bf16_f32)

/-- The block's own rows. -/
def rowsOwn : FVec Ideal S4x128x256 .bf16 :=
  truncf .bf16 (shapeCast S4x128x256 (View.ld x0 rx) shapeCasts_S1x4x128x256_S4x128x256) bitsLt_bf16_f32

/-- The six rows. -/
def sixRows : FVec Ideal S6x128x256 .bf16 :=
  concatenate S6x128x256 0 [⟨S1x128x256, rowAbove i x1⟩, ⟨S4x128x256, rowsOwn x0⟩, ⟨S1x128x256, rowBelow i x2⟩]
    concatenates_S1x128x256_S4x128x256_S1x128x256_S6x128x256_d0

/-- A column of zeros. -/
def zeroCol : FVec Ideal S6x1x256 .bf16 := broadcast S6x1x256 (Scalar.sitofp .bf16 0#32)

/-- The column of zeros is zero. -/
theorem zeroCol_apply (y : S6x1x256.Idx) : zeroCol y = 0 := by
  show (((0#32 : BitVec 32).toInt : ℝ) : EReal) = 0
  simp

/-- The six rows with a column of zeros before them. -/
def leftPadded : FVec Ideal S6x129x256 .bf16 :=
  concatenate S6x129x256 1 [⟨S6x1x256, zeroCol⟩, ⟨S6x128x256, sixRows i x0 x1 x2⟩] concatenates_S6x1x256_S6x128x256_S6x129x256_d1

/-- The patch: a column of zeros, the six rows, and a column of zeros. -/
theorem patch_eq : blkPatch i x0 x1 x2
    = concatenate S6x130x256 1 [⟨S6x129x256, leftPadded i x0 x1 x2⟩, ⟨S6x1x256, zeroCol⟩] concatenates_S6x129x256_S6x1x256_S6x130x256_d1 := rfl

/-- The last column is zero. -/
theorem patch_last (r : Fin 6) (s : Fin 130) (c : Fin 256) (h : s.val = 129) : blkPatch i x0 x1 x2 (ix3 r s c) = 0 := by
  rw [patch_eq]
  refine (concatenate_pair_apply_right (t := S6x130x256) (s₁ := S6x129x256) (s₂ := S6x1x256) 1 _ _ _ (ix3 r s c) rfl rfl (ix3 (n0 := 6) (n1 := 1) r 0 c) (fun b hb => ?_) ?_).trans (zeroCol_apply _)
  · match b with
    | ⟨0, _⟩ => rfl
    | ⟨1, _⟩ => exact absurd rfl hb
    | ⟨2, _⟩ => rfl
  · show 0 + 129 = s.val
    omega

/-- Any other column is the left-padded rows'. -/
theorem patch_left (r : Fin 6) (s : Fin 129) (c : Fin 256) :
    blkPatch i x0 x1 x2 (ix3 r (n1 := 130) ⟨s.val, by omega⟩ c) = leftPadded i x0 x1 x2 (ix3 r s c) := by
  rw [patch_eq]
  refine concatenate_pair_apply_left (t := S6x130x256) (s₁ := S6x129x256) (s₂ := S6x1x256) 1 _ _ _ (ix3 r (n1 := 130) ⟨s.val, by omega⟩ c) rfl (ix3 r s c) (fun b => ?_)
  match b with
  | ⟨0, _⟩ => rfl
  | ⟨1, _⟩ => rfl
  | ⟨2, _⟩ => rfl

/-- The first column is zero. -/
theorem patch_first (r : Fin 6) (s : Fin 130) (c : Fin 256) (h : s.val = 0) : blkPatch i x0 x1 x2 (ix3 r s c) = 0 := by
  have hs : s = ⟨(0 : Fin 129).val, by decide⟩ := Fin.ext h
  rw [hs, patch_left]
  refine (concatenate_pair_apply_left (t := S6x129x256) (s₁ := S6x1x256) (s₂ := S6x128x256) 1 _ _ _ (ix3 r (n1 := 129) 0 c) rfl (ix3 (n0 := 6) (n1 := 1) r 0 c) (fun b => ?_)).trans (zeroCol_apply _)
  match b with
  | ⟨0, _⟩ => rfl
  | ⟨1, _⟩ => rfl
  | ⟨2, _⟩ => rfl

/-- Column `s + 1` is the six rows' column `s`. -/
theorem patch_inner (r : Fin 6) (s : Fin 128) (c : Fin 256) :
    blkPatch i x0 x1 x2 (ix3 r (n1 := 130) ⟨s.val + 1, by omega⟩ c) = sixRows i x0 x1 x2 (ix3 r s c) := by
  refine (patch_left i x0 x1 x2 r ⟨s.val + 1, by omega⟩ c).trans ?_
  refine concatenate_pair_apply_right (t := S6x129x256) (s₁ := S6x1x256) (s₂ := S6x128x256) 1 _ _ _ (ix3 r (n1 := 129) ⟨s.val + 1, by omega⟩ c) rfl rfl (ix3 r s c) (fun b hb => ?_) ?_
  · match b with
    | ⟨0, _⟩ => rfl
    | ⟨1, _⟩ => exact absurd rfl hb
    | ⟨2, _⟩ => rfl
  · rfl

/-- Row 0 is the row above. -/
theorem six_above (s : Fin 128) (c : Fin 256) : sixRows i x0 x1 x2 (ix3 (n0 := 6) 0 s c) = rowAbove i x1 (ix3 0 s c) := by
  refine concatenate_apply_piece (t := S6x128x256) 0
    [⟨S1x128x256, rowAbove i x1⟩, ⟨S4x128x256, rowsOwn x0⟩, ⟨S1x128x256, rowBelow i x2⟩] _ _ 0 (show 0 < 3 by decide) S1x128x256 _ rfl rfl 0 rfl (ix3 0 s c) (fun b hb => ?_) rfl
  match b with
  | ⟨0, _⟩ => exact absurd rfl hb
  | ⟨1, _⟩ => rfl
  | ⟨2, _⟩ => rfl

/-- Rows 1 to 4 are the block's own. -/
theorem six_own (r : Fin 4) (s : Fin 128) (c : Fin 256) :
    sixRows i x0 x1 x2 (ix3 (n0 := 6) ⟨r.val + 1, by omega⟩ s c) = rowsOwn x0 (ix3 r s c) := by
  refine concatenate_apply_piece (t := S6x128x256) 0
    [⟨S1x128x256, rowAbove i x1⟩, ⟨S4x128x256, rowsOwn x0⟩, ⟨S1x128x256, rowBelow i x2⟩] _ _ 1 (show 1 < 3 by decide) S4x128x256 _ rfl rfl 1 rfl (ix3 r s c) (fun b hb => ?_) ?_
  · match b with
    | ⟨0, _⟩ => exact absurd rfl hb
    | ⟨1, _⟩ => rfl
    | ⟨2, _⟩ => rfl
  · exact Nat.add_comm 1 r.val

/-- Row 5 is the row below. -/
theorem six_below (s : Fin 128) (c : Fin 256) : sixRows i x0 x1 x2 (ix3 (n0 := 6) 5 s c) = rowBelow i x2 (ix3 0 s c) := by
  refine concatenate_apply_piece (t := S6x128x256) 0
    [⟨S1x128x256, rowAbove i x1⟩, ⟨S4x128x256, rowsOwn x0⟩, ⟨S1x128x256, rowBelow i x2⟩] _ _ 2 (show 2 < 3 by decide) S1x128x256 _ rfl rfl 5 rfl (ix3 0 s c) (fun b hb => ?_) rfl
  match b with
  | ⟨0, _⟩ => exact absurd rfl hb
  | ⟨1, _⟩ => rfl
  | ⟨2, _⟩ => rfl

/-- Four zero offsets are the zero function. -/
theorem zero_offsets4 : (![0, 0, 0, 0] : Fin 4 → Nat) = fun _ => 0 := by decide

/-- A block of rows without its unit axis. -/
theorem rows_apply {n : Nat} (x : Vec Ideal ⟨4, ![1, n, 128, 256]⟩ .f32) (h : (⟨4, ![1, n, 128, 256]⟩ : Shape).ShapeCasts ⟨3, ![n, 128, 256]⟩)
    (inb : ∀ a, (![0, 0, 0, 0] : Fin 4 → Nat) a + (⟨4, ![1, n, 128, 256]⟩ : Shape).size a ≤ (⟨4, ![1, n, 128, 256]⟩ : Shape).size a)
    (r : Fin n) (s : Fin 128) (c : Fin 256) :
    shapeCast ⟨3, ![n, 128, 256]⟩ (View.ld x (Rect.unit (s := ⟨4, ![1, n, 128, 256]⟩) ![0, 0, 0, 0] _ inb)) h (ix3 r s c)
      = x (ix4 (n0 := 1) 0 r s c) := by
  rw [View.ld_unit_zero zero_offsets4]
  refine shapeCast_apply _ _ _ (ix4 (n0 := 1) 0 r s c) ?_
  rw [Shape.rowMajor_val_four, Shape.rowMajor_val_three]
  show ((0 * n + r.val) * 128 + s.val) * 256 + c.val = (r.val * 128 + s.val) * 256 + c.val
  omega

/-- The block's own rows at an index. -/
theorem own_apply (r : Fin 4) (s : Fin 128) (c : Fin 256) : rowsOwn x0 (ix3 r s c) = x0 (ix4 (n0 := 1) 0 r s c) :=
  rows_apply x0 _ _ r s c

/-- The choice between zeros and a row, at an index. -/
theorem choice_apply (b : BitVec 1) (x : Vec Ideal S1x1x128x256 .f32) (s : Fin 128) (c : Fin 256) :
    Scalar.select b (broadcast S1x128x256 (Scalar.ofBits (F := Ideal) .bf16 0x0000#16))
      (truncf .bf16 (shapeCast S1x128x256 (View.ld x rh) shapeCasts_S1x1x128x256_S1x128x256) bitsLt_bf16_f32 : FVec Ideal S1x128x256 .bf16)
      (ix3 0 s c) = if b = 1#1 then 0 else x (ix4 (n0 := 1) (n1 := 1) 0 0 s c) := by
  have hz : Ideal.ofBits .bf16 0x0000#16 = 0 := by simp [Ideal.ofBits, Ideal.ieee]
  unfold Scalar.select
  by_cases h : b = (1 : BitVec 1)
  · rw [if_pos h]; refine Eq.trans ?_ (if_pos h).symm; exact hz
  · rw [if_neg h]; refine Eq.trans ?_ (if_neg h).symm; exact rows_apply x _ _ 0 s c

/-- The test of a block's number, as a test of the number. -/
theorem block_test (n k : Nat) (hn : n < 32) (hk : k < 32) : (Scalar.cmpi .eq (BitVec.ofNat 32 n) (BitVec.ofNat 32 k) = 1#1) ↔ n = k := by
  show (BitVec.ofBool (BitVec.ofNat 32 n == BitVec.ofNat 32 k) = 1#1) ↔ n = k
  rw [show (BitVec.ofNat 32 n == BitVec.ofNat 32 k) = decide (n = k) from ?_]
  · by_cases h : n = k <;> simp [h]
  · rw [Bool.eq_iff_iff, beq_iff_eq, decide_eq_true_iff]
    constructor
    · intro h
      have := congrArg BitVec.toNat h
      rw [BitVec.toNat_ofNat, BitVec.toNat_ofNat] at this
      omega
    · rintro rfl; rfl

/-- The row above, or zeros at the top strip. -/
theorem above_apply (s : Fin 128) (c : Fin 256) :
    rowAbove i x1 (ix3 0 s c) = if (i 1).val = 0 then 0 else x1 (ix4 (n0 := 1) (n1 := 1) 0 0 s c) :=
  (choice_apply _ x1 s c).trans (if_congr (block_test _ 0 (i 1).isLt (by decide)) rfl rfl)

/-- The row below, or zeros at the bottom strip. -/
theorem below_apply (s : Fin 128) (c : Fin 256) :
    rowBelow i x2 (ix3 0 s c) = if (i 1).val = 31 then 0 else x2 (ix4 (n0 := 1) (n1 := 1) 0 0 s c) :=
  (choice_apply _ x2 s c).trans (if_congr (block_test _ 31 (i 1).isLt (by decide)) rfl rfl)

end Cert.Heads

end
-- ==== Proof.Point.lean ====
/-
  WHAT A GRID POINT COMPUTES, in terms of the arguments and over the ideal values. The patch of point `(b, i)` is rows `4·i − 1`
  to `4·i + 4` of picture `b` with a frame of zeros round the picture, so a position of the strip sees the same nine places of
  the framed picture that the plain convolution sees.
-/
module

public import proofs.«01_k».proof.Proof.Blocks
public import proofs.«01_k».proof.Proof.Taps
public import proofs.«01_k».proof.Proof.Patch

@[expose] public section

set_option maxRecDepth 16384

noncomputable section

namespace Cert.Heads

open Cert.KernelIdeal Cert.KernelIdeal.Gen
open Idealize.ShloMosaic hiding ix1 ix2 ix3 ix4 ix5
open Idealize.ShloMosaic.TcCoe Idealize.ShloMosaic.Tactic Idealize.ShloMosaic.ValueIdx

variable (m : (ℓ : Loc nD τ sig) → Buf (Elt Ideal) ℓ) (c : Dev nD) (t : Fin cfg0.N)

/-! ## The heads, written plainly -/

/-- Picture `b` in a frame of zeros one place wide: place `(y, x)` of 130 × 130. -/
def framed (b : Fin 2) (y x : Nat) (k : Fin 256) : EReal :=
  if h : (1 ≤ y ∧ y ≤ 128) ∧ (1 ≤ x ∧ x ≤ 128) then image m c b ⟨y - 1, by omega⟩ ⟨x - 1, by omega⟩ k else 0

/-- Tap `(dy, dx)` of the convolution at row `h`, column `w` and feature `o`. -/
def tapAt (b : Fin 2) (h w : Fin 128) (o : Fin 512) (dy dx : Fin 3) : EReal :=
  ∑ k : Fin 256, framed m c b (h.val + dy.val) (w.val + dx.val) k * wShared m c dy dx k o

/-- The shared feature. -/
def featureAt (b : Fin 2) (h w : Fin 128) (o : Fin 512) : EReal := held (tapsSum (tapAt m c b h w o)) (bShared m c o)

/-- The class head: two logits for each of 15 anchors. -/
def logitAt (b : Fin 2) (h w : Fin 128) (l : Fin 30) : EReal := (∑ o : Fin 512, featureAt m c b h w o * wClass m c o l) + bClass m c l

/-- The box head: four deltas for each of 15 anchors. -/
def deltaAt (b : Fin 2) (h w : Fin 128) (l : Fin 60) : EReal := (∑ o : Fin 512, featureAt m c b h w o * wBox m c o l) + bBox m c l

/-! ## The patch -/

/-- Row `r` of the six rows is row `4·i + r` of the framed picture, inside its frame's columns. -/
theorem six_framed (r : Fin 6) (s : Fin 128) (k : Fin 256) :
    sixRows (grid0.coords t) (iblk m c 0 t) (iblk m c 1 t) (iblk m c 2 t) (ix3 r s k)
      = framed m c (pic t) (4 * (strip t).val + r.val) (s.val + 1) k := by
  have hi : (strip t).val < 32 := (strip t).isLt
  unfold framed
  by_cases h0 : r.val = 0
  · rw [show r = 0 from Fin.ext h0, six_above, above_apply]
    show (if (strip t).val = 0 then (0 : EReal) else _) = _
    by_cases hs : (strip t).val = 0
    · rw [if_pos hs, dif_neg (by show ¬((1 ≤ 4 * (strip t).val + 0 ∧ _) ∧ _); omega)]
    · rw [if_neg hs, dif_pos (by show (1 ≤ 4 * (strip t).val + 0 ∧ 4 * (strip t).val + 0 ≤ 128) ∧ _; omega), block_above m c t hs]
      rfl
  by_cases h5 : r.val = 5
  · rw [show r = 5 from Fin.ext h5, six_below, below_apply]
    show (if (strip t).val = 31 then (0 : EReal) else _) = _
    by_cases hs : (strip t).val = 31
    · rw [if_pos hs, dif_neg (by show ¬((_ ∧ 4 * (strip t).val + 5 ≤ 128) ∧ _); omega)]
    · rw [if_neg hs, dif_pos (by show (1 ≤ 4 * (strip t).val + 5 ∧ 4 * (strip t).val + 5 ≤ 128) ∧ _; omega), block_below m c t hs]
      rfl
  · have hr := r.isLt
    rw [show r = ⟨(⟨r.val - 1, by omega⟩ : Fin 4).val + 1, by show r.val - 1 + 1 < 6; omega⟩ from Fin.ext (by show r.val = r.val - 1 + 1; omega),
      six_own, own_apply, block_own, dif_pos (by show (1 ≤ 4 * (strip t).val + (r.val - 1 + 1) ∧ 4 * (strip t).val + (r.val - 1 + 1) ≤ 128) ∧ _; omega)]
    rfl

/-- The patch is the framed picture from row `4·i` on. -/
theorem patch_framed (r : Fin 6) (s : Fin 130) (k : Fin 256) :
    blkPatch (grid0.coords t) (iblk m c 0 t) (iblk m c 1 t) (iblk m c 2 t) (ix3 r s k)
      = framed m c (pic t) (4 * (strip t).val + r.val) s.val k := by
  by_cases h0 : s.val = 0
  · rw [patch_first _ _ _ _ r s k h0]
    unfold framed
    rw [dif_neg (by omega)]
  by_cases h1 : s.val = 129
  · rw [patch_last _ _ _ _ r s k h1]
    unfold framed
    rw [dif_neg (by omega)]
  · have hs := s.isLt
    have e : s = ⟨(⟨s.val - 1, by omega⟩ : Fin 128).val + 1, by show s.val - 1 + 1 < 130; omega⟩ := Fin.ext (by show s.val = s.val - 1 + 1; omega)
    rw [e, patch_inner, six_framed]

/-! ## The heads of a block -/

/-- The row of position `q` of the strip. -/
def rowOf (q : Fin 512) : Fin 128 := ⟨4 * (strip t).val + q.val / 128, by omega⟩
/-- The column of position `q`. -/
def colOf (q : Fin 512) : Fin 128 := ⟨q.val % 128, by omega⟩

/-- A strip's nine taps are the framed picture's. -/
theorem tap_framed (q o : Fin 512) :
    tapSum (blkPatch (grid0.coords t) (iblk m c 0 t) (iblk m c 1 t) (iblk m c 2 t)) (iblk m c 3 t) q o
      = tapAt m c (pic t) (rowOf t q) (colOf q) o := by
  funext dy dx
  unfold tapSum tapAt
  refine Finset.sum_congr rfl fun k _ => ?_
  rw [patch_framed, block_wShared]
  show framed m c (pic t) (4 * (strip t).val + (dy.val + q.val / 128)) (dx.val + q.val % 128) k * _
    = framed m c (pic t) (4 * (strip t).val + q.val / 128 + dy.val) (q.val % 128 + dx.val) k * _
  rw [show 4 * (strip t).val + (dy.val + q.val / 128) = 4 * (strip t).val + q.val / 128 + dy.val by omega,
    show dx.val + q.val % 128 = q.val % 128 + dx.val by omega]

/-- The logits of a block are the class head at its positions. -/
theorem logits_block (q : Fin 512) (l : Fin 30) :
    blkLogits (grid0.coords t) (iblk m c 0 t) (iblk m c 1 t) (iblk m c 2 t) (iblk m c 3 t) (iblk m c 4 t) (iblk m c 5 t) (iblk m c 6 t) (ix2 q l)
      = logitAt m c (pic t) (rowOf t q) (colOf q) l := by
  rw [logits_apply]
  unfold logitAt featureAt
  refine congrArg₂ (· + ·) (Finset.sum_congr rfl fun o _ => ?_) (block_bClass m c t l)
  rw [tap_framed, block_bShared, block_wClass]

/-- The deltas of a block are the box head at its positions. -/
theorem deltas_block (q : Fin 512) (l : Fin 60) :
    blkDeltas (grid0.coords t) (iblk m c 0 t) (iblk m c 1 t) (iblk m c 2 t) (iblk m c 3 t) (iblk m c 4 t) (iblk m c 7 t) (iblk m c 8 t) (ix2 q l)
      = deltaAt m c (pic t) (rowOf t q) (colOf q) l := by
  rw [deltas_apply]
  unfold deltaAt featureAt
  refine congrArg₂ (· + ·) (Finset.sum_congr rfl fun o _ => ?_) (block_bBox m c t l)
  rw [tap_framed, block_bShared, block_wBox]

end Cert.Heads

end
-- ==== Proof.RefHeads.lean ====
/-
  THE REFERENCE'S HEADS, READ AT AN INDEX, over the ideal values and on the kernel's arguments. The reference pads the
  pictures with a frame of zeros, adds the nine taps of the convolution in turn, adds the bias, holds the sum between 0
  and 6, and applies the two heads: the same plain functions of a row, a column and a lane that the kernel's blocks hold.
-/
module

public import proofs.«01_k».proof.Proof.Point
public import proofs.«01_k».proof.Proof.Gen.ReferenceIdeal.Read
public import Idealize.ShloMosaic.Lib.KernelVsHost

@[expose] public section

set_option maxRecDepth 16384

noncomputable section

namespace Cert.Heads

open Cert.ReferenceIdeal Cert.ReferenceIdeal.Gen Cert.ReferenceIdeal.Read
open Idealize.ShloMosaic hiding ix1 ix2 ix3 ix4 ix5
open Idealize.ShloMosaic.TcCoe Idealize.ShloMosaic.ValueIdx

variable (m : (ℓ : Loc Cert.KernelIdeal.nD Cert.KernelIdeal.τ Cert.KernelIdeal.sig) → Buf (Elt Ideal) ℓ) (c : Dev Cert.KernelIdeal.nD)

/-! ## The arguments, at the reference's types -/

/-- Argument 0. -/
abbrev arg0 : (⟨S1x2x128x128x256, .f32⟩ : BufTy).Contents (Elt Ideal) := m ((c.tc : Thread Cert.KernelIdeal.nD Cert.KernelIdeal.τ).loc Cert.KernelIdeal.main_arg0)
/-- Argument 1. -/
abbrev arg1 : (⟨S3x3x256x512, .f32⟩ : BufTy).Contents (Elt Ideal) := m ((c.tc : Thread Cert.KernelIdeal.nD Cert.KernelIdeal.τ).loc Cert.KernelIdeal.main_arg1)
/-- Argument 2. -/
abbrev arg2 : (⟨S512, .f32⟩ : BufTy).Contents (Elt Ideal) := m ((c.tc : Thread Cert.KernelIdeal.nD Cert.KernelIdeal.τ).loc Cert.KernelIdeal.main_arg2)
/-- Argument 3. -/
abbrev arg3 : (⟨S1x1x512x30, .f32⟩ : BufTy).Contents (Elt Ideal) := m ((c.tc : Thread Cert.KernelIdeal.nD Cert.KernelIdeal.τ).loc Cert.KernelIdeal.main_arg3)
/-- Argument 4. -/
abbrev arg4 : (⟨S30, .f32⟩ : BufTy).Contents (Elt Ideal) := m ((c.tc : Thread Cert.KernelIdeal.nD Cert.KernelIdeal.τ).loc Cert.KernelIdeal.main_arg4)
/-- Argument 5. -/
abbrev arg5 : (⟨S1x1x512x60, .f32⟩ : BufTy).Contents (Elt Ideal) := m ((c.tc : Thread Cert.KernelIdeal.nD Cert.KernelIdeal.τ).loc Cert.KernelIdeal.main_arg5)
/-- Argument 6. -/
abbrev arg6 : (⟨S60, .f32⟩ : BufTy).Contents (Elt Ideal) := m ((c.tc : Thread Cert.KernelIdeal.nD Cert.KernelIdeal.τ).loc Cert.KernelIdeal.main_arg6)

/-! ## The framed pictures -/

/-- The pictures without the leading axis of one. -/
theorem pictures_ref (b : Fin 2) (h w : Fin 128) (k : Fin 256) :
    val_main_v0 (F := Ideal) (arg0 m c) (ix4 (n0 := 2) (n1 := 128) (n2 := 128) (n3 := 256) b h w k) = image m c b h w k := by
  refine shapeCast_apply (s := ⟨5, ![1, 2, 128, 128, 256]⟩) (t := ⟨4, ![2, 128, 128, 256]⟩) (arg0 m c) _ _ (ix5 (n0 := 1) 0 b h w k) ?_
  rw [Shape.rowMajor_val_five, Shape.rowMajor_val_four]
  show (((0 * 2 + b.val) * 128 + h.val) * 128 + w.val) * 256 + k.val = ((b.val * 128 + h.val) * 128 + w.val) * 256 + k.val
  omega

/-- The padded pictures are the framed pictures. -/
theorem framed_ref (b : Fin 2) (y x : Fin 130) (k : Fin 256) :
    val_main_v1 (F := Ideal) (arg0 m c) (ix4 (n0 := 2) (n1 := 130) (n2 := 130) (n3 := 256) b y x k) = framed m c b y.val x.val k := by
  have hz : val_main_call0_v0 (F := Ideal) (Shape.Idx.first h_S_) = (0 : EReal) := by
    show (((0#32 : BitVec 32).toInt : ℝ) : EReal) = 0
    simp
  unfold framed val_main_v1
  by_cases h : (1 ≤ y.val ∧ y.val ≤ 128) ∧ (1 ≤ x.val ∧ x.val ≤ 128)
  · rw [dif_pos h]
    refine (pad_apply_of_inside _ _ _ _ _ _ _ _ (ix4 (n0 := 2) (n1 := 128) (n2 := 128) (n3 := 256) b ⟨y.val - 1, by omega⟩ ⟨x.val - 1, by omega⟩ k) fun a => ?_).trans
      (pictures_ref m c b _ _ k)
    match a with
    | ⟨0, _⟩ => show b.val = 0 + b.val * 1; omega
    | ⟨1, _⟩ => show y.val = 1 + (y.val - 1) * 1; omega
    | ⟨2, _⟩ => show x.val = 1 + (x.val - 1) * 1; omega
    | ⟨3, _⟩ => show k.val = 0 + k.val * 1; omega
  · rw [dif_neg h]
    by_cases hy : 1 ≤ y.val ∧ y.val ≤ 128
    · refine (pad_apply_of_not_inside _ _ _ _ _ _ _ _ (2 : Fin 4) fun hc => h ⟨hy, ?_⟩).trans hz
      have h1 : 1 ≤ x.val := hc.1
      have h2 : (x.val - 1) / 1 < 128 := hc.2.2
      omega
    · refine (pad_apply_of_not_inside _ _ _ _ _ _ _ _ (1 : Fin 4) fun hc => hy ?_).trans hz
      have h1 : 1 ≤ y.val := hc.1
      have h2 : (y.val - 1) / 1 < 128 := hc.2.2
      omega

/-! ## The taps -/

/-- A tap from a slice of the framed pictures and a slice of the weights, in the reference's form. -/
theorem tap_ref (dy dx : Fin 3) (v : S2x128x128x256.Idx → EReal) (w : S256x512.Idx → EReal) (i : S2x128x128x512.Idx)
    (li : Fin 256 → S2x128x128x256.Idx) (ri : Fin 256 → S256x512.Idx)
    (hv : ∀ k, v (li k) = framed m c (i 0) ((i 1).val + dy.val) ((i 2).val + dx.val) k) (hw : ∀ k, w (ri k) = wShared m c dy dx k (i 3)) :
    (∑ k : Fin 256, v (li k) * w (ri k)) = tapAt m c (i 0) (i 1) (i 2) (i 3) dy dx :=
  Finset.sum_congr rfl fun k _ => congrArg₂ (· * ·) (hv k) (hw k)

/-- The padded pictures at any index with the coordinates given. -/
theorem framed_at (j : S2x130x130x256.Idx) (b : Fin 2) (y x : Nat) (k : Fin 256) (h0 : (j 0).val = b.val) (h1 : (j 1).val = y)
    (h2 : (j 2).val = x) (h3 : (j 3).val = k.val) : val_main_v1 (F := Ideal) (arg0 m c) j = framed m c b y x k := by
  subst h1 h2
  rw [← framed_ref m c b (j 1) (j 2) k]
  exact congrArg _ (funext fun a => match a with
    | ⟨0, _⟩ => Fin.ext h0
    | ⟨1, _⟩ => rfl
    | ⟨2, _⟩ => rfl
    | ⟨3, _⟩ => Fin.ext h3)

/-- The weights at any index with the coordinates given. -/
theorem weights_at (j : S3x3x256x512.Idx) (dy dx : Fin 3) (k : Fin 256) (o : Fin 512) (h0 : (j 0).val = dy.val) (h1 : (j 1).val = dx.val)
    (h2 : (j 2).val = k.val) (h3 : (j 3).val = o.val) : arg1 m c j = wShared m c dy dx k o :=
  congrArg (arg1 m c) (funext fun a => match a with
    | ⟨0, _⟩ => Fin.ext h0
    | ⟨1, _⟩ => Fin.ext h1
    | ⟨2, _⟩ => Fin.ext h2
    | ⟨3, _⟩ => Fin.ext h3)

/-- The row of an entry of a table of 512 columns, from its place in the list; -/
theorem row_in_table (k : Fin 256) (o : Fin 512) : (k.val * 512 + o.val) / 512 % 256 = k.val := by omega
/-- and its column. -/
theorem lane_in_table (k : Fin 256) (o : Fin 512) : (k.val * 512 + o.val) % 512 = o.val := by omega

variable (i : S2x128x128x512.Idx)

/-- The reference's tap (0, 0). -/
theorem tap00_ref : val_main_v6 (F := Ideal) (arg0 m c) (arg1 m c) i = tapAt m c (i 0) (i 1) (i 2) (i 3) 0 0 := by
  refine (val_main_v6_apply _ _ i).trans (tap_ref m c 0 0 _ _ i (lidx_main_v6 i) (ridx_main_v6 i) (fun k => ?_) fun k => ?_)
  · exact (val_main_v3_apply _ _).trans (framed_at m c _ _ _ _ k rfl (rfl) (rfl) rfl)
  · exact (val_main_v5_apply _ _).trans ((val_main_v4_apply _ _).trans
      (weights_at m c _ 0 0 k (i 3) rfl rfl (row_in_table k (i 3)) (lane_in_table k (i 3))))

/-- The reference's tap (0, 1). -/
theorem tap01_ref : val_main_v11 (F := Ideal) (arg0 m c) (arg1 m c) i = tapAt m c (i 0) (i 1) (i 2) (i 3) 0 1 := by
  refine (val_main_v11_apply _ _ i).trans (tap_ref m c 0 1 _ _ i (lidx_main_v11 i) (ridx_main_v11 i) (fun k => ?_) fun k => ?_)
  · exact (val_main_v8_apply _ _).trans (framed_at m c _ _ _ _ k rfl (rfl) (Nat.add_comm _ _) rfl)
  · exact (val_main_v10_apply _ _).trans ((val_main_v9_apply _ _).trans
      (weights_at m c _ 0 1 k (i 3) rfl rfl (row_in_table k (i 3)) (lane_in_table k (i 3))))

/-- The reference's tap (0, 2). -/
theorem tap02_ref : val_main_v16 (F := Ideal) (arg0 m c) (arg1 m c) i = tapAt m c (i 0) (i 1) (i 2) (i 3) 0 2 := by
  refine (val_main_v16_apply _ _ i).trans (tap_ref m c 0 2 _ _ i (lidx_main_v16 i) (ridx_main_v16 i) (fun k => ?_) fun k => ?_)
  · exact (val_main_v13_apply _ _).trans (framed_at m c _ _ _ _ k rfl (rfl) (Nat.add_comm _ _) rfl)
  · exact (val_main_v15_apply _ _).trans ((val_main_v14_apply _ _).trans
      (weights_at m c _ 0 2 k (i 3) rfl rfl (row_in_table k (i 3)) (lane_in_table k (i 3))))

/-- The reference's tap (1, 0). -/
theorem tap10_ref : val_main_v21 (F := Ideal) (arg0 m c) (arg1 m c) i = tapAt m c (i 0) (i 1) (i 2) (i 3) 1 0 := by
  refine (val_main_v21_apply _ _ i).trans (tap_ref m c 1 0 _ _ i (lidx_main_v21 i) (ridx_main_v21 i) (fun k => ?_) fun k => ?_)
  · exact (val_main_v18_apply _ _).trans (framed_at m c _ _ _ _ k rfl (Nat.add_comm _ _) (rfl) rfl)
  · exact (val_main_v20_apply _ _).trans ((val_main_v19_apply _ _).trans
      (weights_at m c _ 1 0 k (i 3) rfl rfl (row_in_table k (i 3)) (lane_in_table k (i 3))))

/-- The reference's tap (1, 1). -/
theorem tap11_ref : val_main_v26 (F := Ideal) (arg0 m c) (arg1 m c) i = tapAt m c (i 0) (i 1) (i 2) (i 3) 1 1 := by
  refine (val_main_v26_apply _ _ i).trans (tap_ref m c 1 1 _ _ i (lidx_main_v26 i) (ridx_main_v26 i) (fun k => ?_) fun k => ?_)
  · exact (val_main_v23_apply _ _).trans (framed_at m c _ _ _ _ k rfl (Nat.add_comm _ _) (Nat.add_comm _ _) rfl)
  · exact (val_main_v25_apply _ _).trans ((val_main_v24_apply _ _).trans
      (weights_at m c _ 1 1 k (i 3) rfl rfl (row_in_table k (i 3)) (lane_in_table k (i 3))))

/-- The reference's tap (1, 2). -/
theorem tap12_ref : val_main_v31 (F := Ideal) (arg0 m c) (arg1 m c) i = tapAt m c (i 0) (i 1) (i 2) (i 3) 1 2 := by
  refine (val_main_v31_apply _ _ i).trans (tap_ref m c 1 2 _ _ i (lidx_main_v31 i) (ridx_main_v31 i) (fun k => ?_) fun k => ?_)
  · exact (val_main_v28_apply _ _).trans (framed_at m c _ _ _ _ k rfl (Nat.add_comm _ _) (Nat.add_comm _ _) rfl)
  · exact (val_main_v30_apply _ _).trans ((val_main_v29_apply _ _).trans
      (weights_at m c _ 1 2 k (i 3) rfl rfl (row_in_table k (i 3)) (lane_in_table k (i 3))))

/-- The reference's tap (2, 0). -/
theorem tap20_ref : val_main_v36 (F := Ideal) (arg0 m c) (arg1 m c) i = tapAt m c (i 0) (i 1) (i 2) (i 3) 2 0 := by
  refine (val_main_v36_apply _ _ i).trans (tap_ref m c 2 0 _ _ i (lidx_main_v36 i) (ridx_main_v36 i) (fun k => ?_) fun k => ?_)
  · exact (val_main_v33_apply _ _).trans (framed_at m c _ _ _ _ k rfl (Nat.add_comm _ _) (rfl) rfl)
  · exact (val_main_v35_apply _ _).trans ((val_main_v34_apply _ _).trans
      (weights_at m c _ 2 0 k (i 3) rfl rfl (row_in_table k (i 3)) (lane_in_table k (i 3))))

/-- The reference's tap (2, 1). -/
theorem tap21_ref : val_main_v41 (F := Ideal) (arg0 m c) (arg1 m c) i = tapAt m c (i 0) (i 1) (i 2) (i 3) 2 1 := by
  refine (val_main_v41_apply _ _ i).trans (tap_ref m c 2 1 _ _ i (lidx_main_v41 i) (ridx_main_v41 i) (fun k => ?_) fun k => ?_)
  · exact (val_main_v38_apply _ _).trans (framed_at m c _ _ _ _ k rfl (Nat.add_comm _ _) (Nat.add_comm _ _) rfl)
  · exact (val_main_v40_apply _ _).trans ((val_main_v39_apply _ _).trans
      (weights_at m c _ 2 1 k (i 3) rfl rfl (row_in_table k (i 3)) (lane_in_table k (i 3))))

/-- The reference's tap (2, 2). -/
theorem tap22_ref : val_main_v46 (F := Ideal) (arg0 m c) (arg1 m c) i = tapAt m c (i 0) (i 1) (i 2) (i 3) 2 2 := by
  refine (val_main_v46_apply _ _ i).trans (tap_ref m c 2 2 _ _ i (lidx_main_v46 i) (ridx_main_v46 i) (fun k => ?_) fun k => ?_)
  · exact (val_main_v43_apply _ _).trans (framed_at m c _ _ _ _ k rfl (Nat.add_comm _ _) (Nat.add_comm _ _) rfl)
  · exact (val_main_v45_apply _ _).trans ((val_main_v44_apply _ _).trans
      (weights_at m c _ 2 2 k (i 3) rfl rfl (row_in_table k (i 3)) (lane_in_table k (i 3))))

/-- The nine taps, added in turn. -/
theorem taps_ref : val_main_v47 (F := Ideal) (arg0 m c) (arg1 m c) i = tapsSum (tapAt m c (i 0) (i 1) (i 2) (i 3)) := by
  have z : val_main_v2 (F := Ideal) i = (0 : EReal) := (val_main_v2_apply i).trans Ideal.ofBits_zero_f32
  exact congrArg₂ (· + ·) (congrArg₂ (· + ·) (congrArg₂ (· + ·) (congrArg₂ (· + ·) (congrArg₂ (· + ·) (congrArg₂ (· + ·) (congrArg₂ (· + ·)
    (congrArg₂ (· + ·) (congrArg₂ (· + ·) z (tap00_ref m c i)) (tap01_ref m c i)) (tap02_ref m c i)) (tap10_ref m c i)) (tap11_ref m c i))
    (tap12_ref m c i)) (tap20_ref m c i)) (tap21_ref m c i)) (tap22_ref m c i)

/-- The features. -/
theorem feature_ref : val_main_v54 (F := Ideal) (arg0 m c) (arg1 m c) (arg2 m c) i = featureAt m c (i 0) (i 1) (i 2) (i 3) := by
  have z : val_main_v51 (F := Ideal) i = (0 : EReal) := (val_main_v51_apply i).trans Ideal.ofBits_zero_f32
  have s : val_main_v53 (F := Ideal) i = Ideal.ofBits .f32 0x40C00000#32 := val_main_v53_apply i
  have b : val_main_v49 (F := Ideal) (arg2 m c) i = bShared m c (i 3) :=
    (val_main_v49_apply _ i).trans ((val_main_v48_apply _ _).trans (congrArg (arg2 m c) (funext fun a => match a with | ⟨0, _⟩ => rfl)))
  have sum : val_main_v50 (F := Ideal) (arg0 m c) (arg1 m c) (arg2 m c) i = tapsSum (tapAt m c (i 0) (i 1) (i 2) (i 3)) + bShared m c (i 3) :=
    congrArg₂ (· + ·) (taps_ref m c i) b
  have low : val_main_v52 (F := Ideal) (arg0 m c) (arg1 m c) (arg2 m c) i = max 0 (tapsSum (tapAt m c (i 0) (i 1) (i 2) (i 3)) + bShared m c (i 3)) :=
    (congrArg₂ max sum z).trans (max_comm _ _)
  exact (congrArg₂ min low s).trans (min_comm _ _)

/-- The class head. -/
theorem logit_ref (b : Fin 2) (h w : Fin 128) (l : Fin 30) :
    val_main_v59 (F := Ideal) (arg0 m c) (arg1 m c) (arg2 m c) (arg3 m c) (arg4 m c) (ix4 (n0 := 2) (n1 := 128) (n2 := 128) (n3 := 30) b h w l)
      = logitAt m c b h w l := by
  refine congrArg₂ (· + ·) ((val_main_v56_apply _ _ _ _ _).trans (Finset.sum_congr rfl fun o _ => congrArg₂ (· * ·) (feature_ref m c _) ?_)) ?_
  · refine (val_main_v55_apply _ _).trans (congrArg (arg3 m c) (funext fun a => match a with
      | ⟨0, _⟩ => rfl
      | ⟨1, _⟩ => rfl
      | ⟨2, _⟩ => Fin.ext ?_
      | ⟨3, _⟩ => Fin.ext ?_))
    · show (o.val * 30 + l.val) / 30 % 512 = o.val; omega
    · show (o.val * 30 + l.val) % 30 = l.val; omega
  · exact (val_main_v58_apply _ _).trans ((val_main_v57_apply _ _).trans (congrArg (arg4 m c) (funext fun a => match a with | ⟨0, _⟩ => rfl)))

/-- The box head. -/
theorem delta_ref (b : Fin 2) (h w : Fin 128) (l : Fin 60) :
    val_main_v76 (F := Ideal) (arg0 m c) (arg1 m c) (arg2 m c) (arg5 m c) (arg6 m c) (ix4 (n0 := 2) (n1 := 128) (n2 := 128) (n3 := 60) b h w l)
      = deltaAt m c b h w l := by
  refine congrArg₂ (· + ·) ((val_main_v73_apply _ _ _ _ _).trans (Finset.sum_congr rfl fun o _ => congrArg₂ (· * ·) (feature_ref m c _) ?_)) ?_
  · refine (val_main_v72_apply _ _).trans (congrArg (arg5 m c) (funext fun a => match a with
      | ⟨0, _⟩ => rfl
      | ⟨1, _⟩ => rfl
      | ⟨2, _⟩ => Fin.ext ?_
      | ⟨3, _⟩ => Fin.ext ?_))
    · show (o.val * 60 + l.val) / 60 % 512 = o.val; omega
    · show (o.val * 60 + l.val) % 60 = l.val; omega
  · exact (val_main_v75_apply _ _).trans ((val_main_v74_apply _ _).trans (congrArg (arg6 m c) (funext fun a => match a with | ⟨0, _⟩ => rfl)))

end Cert.Heads

end
-- ==== Proof.Pairs.lean ====
/-
  THE PROBABILITIES OF A BLOCK, READ AT AN INDEX, over the ideal values. The 30 lanes are 15 pairs; a lane's partner is the
  other lane of its pair, read off the logits rolled by one lane, to the left at an even lane and to the right at an odd
  one. The probability is the logistic function of the logit less its partner's.
-/
module

public import proofs.«01_k».proof.Proof.Body
public import Idealize.ShloMosaic.Lib.ValueIdx
public import Idealize.ShloMosaic.Lib.Pipeline.ValueKit.Tiles
public import Idealize.ShloMosaic.PureOps.Ideal.Laws

@[expose] public section

set_option maxRecDepth 16384

noncomputable section

namespace Cert.Heads

open Cert.KernelIdeal Cert.KernelIdeal.Gen
open Idealize.ShloMosaic Idealize.ShloMosaic.ValueIdx

variable (x : FVec Ideal S512x30 .f32)

/-- The other lane of the pair of lane `l`. -/
def partner (l : Fin 30) : Fin 30 := if l.val % 2 = 0 then ⟨(l.val + 1) % 30, by omega⟩ else ⟨l.val - 1, by omega⟩

/-- The lanes rolled one to the left: lane `l` holds lane `l + 1`. -/
def rolledLeft : FVec Ideal S512x30 .f32 :=
  concatenate S512x30 1 [⟨S512x29, extractStridedSlice S512x29 ![0, 1] x slices_S512x30_o0_1_S512x29⟩,
    ⟨S512x1, extractStridedSlice S512x1 ![0, 0] x slices_S512x30_o0_0_S512x1⟩] concatenates_S512x29_S512x1_S512x30_d1

/-- The lanes rolled one to the right: lane `l` holds lane `l − 1`. -/
def rolledRight : FVec Ideal S512x30 .f32 :=
  concatenate S512x30 1 [⟨S512x1, extractStridedSlice S512x1 ![0, 29] x slices_S512x30_o0_29_S512x1⟩,
    ⟨S512x29, extractStridedSlice S512x29 ![0, 0] x slices_S512x30_o0_0_S512x29⟩] concatenates_S512x1_S512x29_S512x30_d1

/-- Rolled left by one: lane `l` holds lane `l + 1`. -/
theorem rolledLeft_apply (q : Fin 512) (l : Fin 29) :
    rolledLeft x (ix2 q (n1 := 30) ⟨l.val, by omega⟩) = x (ix2 q (n1 := 30) ⟨l.val + 1, by omega⟩) := by
  refine (concatenate_pair_apply_left (t := S512x30) (s₁ := S512x29) (s₂ := S512x1) 1 _ _ _ (ix2 q (n1 := 30) ⟨l.val, by omega⟩) rfl (ix2 q l) (fun b => ?_)).trans ?_
  · match b with
    | ⟨0, _⟩ => rfl
    | ⟨1, _⟩ => rfl
  · refine extractStridedSlice_apply _ _ _ _ _ fun a => ?_
    match a with
    | ⟨0, _⟩ => exact (Nat.zero_add _).symm
    | ⟨1, _⟩ => exact Nat.add_comm _ _

/-- Rolled right by one: lane `l + 1` holds lane `l`. -/
theorem rolledRight_apply (q : Fin 512) (l : Fin 29) :
    rolledRight x (ix2 q (n1 := 30) ⟨l.val + 1, by omega⟩) = x (ix2 q (n1 := 30) ⟨l.val, by omega⟩) := by
  refine (concatenate_pair_apply_right (t := S512x30) (s₁ := S512x1) (s₂ := S512x29) 1 _ _ _ (ix2 q (n1 := 30) ⟨l.val + 1, by omega⟩) rfl rfl (ix2 q l) (fun b hb => ?_) ?_).trans ?_
  · match b with
    | ⟨0, _⟩ => rfl
    | ⟨1, _⟩ => exact absurd rfl hb
  · rfl
  · refine extractStridedSlice_apply _ _ _ _ _ fun a => ?_
    match a with
    | ⟨0, _⟩ => exact (Nat.zero_add _).symm
    | ⟨1, _⟩ => exact (Nat.zero_add _).symm

/-- The word test that a lane is even. -/
def evenWord (w : BitVec 32) : BitVec 1 :=
  Scalar.cmpi .eq (Scalar.select (Scalar.andi (Scalar.xori (Scalar.cmpi .slt (Scalar.remsi w 2#32) 0#32) (Scalar.cmpi .slt 2#32 0#32))
    (Scalar.cmpi .ne (Scalar.remsi w 2#32) 0#32)) (Scalar.addi (Scalar.remsi w 2#32) 2#32) (Scalar.remsi w 2#32)) 0#32

/-- The test of the lane word for evenness is the test of the lane. -/
theorem evenWord_lane : ∀ l : Fin 30, (evenWord (BitVec.ofNat 32 l.val) = 1) ↔ l.val % 2 = 0 := by decide +kernel

/-- The probabilities at a position and a lane, with the choice of partner still open. -/
theorem pairProbs_eq (q : Fin 512) (l : Fin 30) : pairProbs x (ix2 q l)
    = Ideal.logistic (x (ix2 q l) - Scalar.select (evenWord (BitVec.ofNat 32 l.val)) (rolledLeft x (ix2 q l)) (rolledRight x (ix2 q l))) := by
  have hi : iota .tc S512x30 32 [1] iota_S512x30_d1_w32 (ix2 q l) = BitVec.ofNat 32 l.val := iota_single_apply _ _ _ _ _ _
  rw [← hi]
  rfl

/-- A probability: the logistic function of the logit less its partner's. -/
theorem pairProbs_apply (q : Fin 512) (l : Fin 30) :
    pairProbs x (ix2 q l) = Ideal.logistic (x (ix2 q l) - x (ix2 q (partner l))) := by
  rw [pairProbs_eq]
  refine congrArg (fun z => Ideal.logistic (x (ix2 q l) - z)) ?_
  have hl := l.isLt
  unfold Scalar.select partner
  by_cases h : l.val % 2 = 0
  · rw [if_pos ((evenWord_lane l).2 h), if_pos h]
    refine (rolledLeft_apply x q ⟨l.val, by omega⟩).trans (congrArg x (Shape.idx_ext₂ rfl ?_))
    show l.val + 1 = (l.val + 1) % 30
    omega
  · rw [if_neg (fun e => h ((evenWord_lane l).1 e)), if_neg h]
    have e : l = ⟨(⟨l.val - 1, by omega⟩ : Fin 29).val + 1, by show l.val - 1 + 1 < 30; omega⟩ := Fin.ext (by show l.val = l.val - 1 + 1; omega)
    rw [e]
    exact rolledRight_apply x q ⟨l.val - 1, by omega⟩

end Cert.Heads

end
-- ==== Proof.Arrays.lean ====
/-
  THE RESULTS AFTER THE RUN, over the ideal values. Row `n` of a result's picture is anchor `n % 15` of column `n / 15 % 128`
  of row `n / 1920`; its lanes are that anchor's two logits, their two probabilities, or its four box offsets.
-/
module

public import proofs.«01_k».proof.Proof.Point
public import proofs.«01_k».proof.Proof.Pairs

@[expose] public section

set_option maxRecDepth 16384

noncomputable section

namespace Cert.Heads

open Cert.KernelIdeal Cert.KernelIdeal.Gen
open Idealize.ShloMosaic hiding ix1 ix2 ix3 ix4 ix5
open Idealize.ShloMosaic.TcCoe Idealize.ShloMosaic.Tactic Idealize.ShloMosaic.ValueIdx

variable (m : (ℓ : Loc nD τ sig) → Buf (Elt Ideal) ℓ) (c : Dev nD)

/-! ## The results, written plainly -/

/-- The row of the picture that row `n` of a result belongs to, -/
def rowAt (n : Fin 245760) : Fin 128 := ⟨n.val / 1920, by omega⟩
/-- its column, -/
def colAt (n : Fin 245760) : Fin 128 := ⟨n.val / 15 % 128, by omega⟩
/-- and the lane of 30 that holds logit `k` of its anchor, -/
def laneAt2 (n : Fin 245760) (k : Fin 2) : Fin 30 := ⟨2 * (n.val % 15) + k.val, by omega⟩
/-- and the lane of 60 that holds box offset `k` of its anchor. -/
def laneAt4 (n : Fin 245760) (k : Fin 4) : Fin 60 := ⟨4 * (n.val % 15) + k.val, by omega⟩

/-- The first result: two logits for each anchor. -/
def outLogits : S2x245760x2.Idx → EReal := fun y => logitAt m c (y 0) (rowAt (y 1)) (colAt (y 1)) (laneAt2 (y 1) (y 2))

/-- The second result: the logistic function of a logit's difference from its partner. -/
def outProbs : S2x245760x2.Idx → EReal := fun y =>
  Ideal.logistic (logitAt m c (y 0) (rowAt (y 1)) (colAt (y 1)) (laneAt2 (y 1) (y 2))
    - logitAt m c (y 0) (rowAt (y 1)) (colAt (y 1)) (partner (laneAt2 (y 1) (y 2))))

/-- The third result: four box offsets for each anchor. -/
def outDeltas : S2x245760x4.Idx → EReal := fun y => deltaAt m c (y 0) (rowAt (y 1)) (colAt (y 1)) (laneAt4 (y 1) (y 2))

/-! ## A row of a block, in its array -/

variable (t : Fin cfg0.N)

/-- Where lane `y 2` of row `y 1` of grid point `t`'s block lies in the array. -/
def placed (n : Nat) (y : (Tall n).Idx) : (⟨3, ![2, 245760, n]⟩ : Shape).Idx :=
  ix3 (n0 := 2) (n1 := 245760) (n2 := n) (pic t) ⟨7680 * (strip t).val + (y 1).val, by
    have : (y 1).val < 7680 := (y 1).isLt; have : (strip t).val < 32 := (strip t).isLt; omega⟩ (y 2)

/-- The first result's block lies there, … -/
theorem placed_9 (y : (Tall 2).Idx) : (win0_9.blk t).view.emb y = placed t 2 y := by
  blk_ext [index_out t, placed, pic, strip]
/-- … and the second's … -/
theorem placed_10 (y : (Tall 2).Idx) : (win0_10.blk t).view.emb y = placed t 2 y := by
  blk_ext [index_out t, placed, pic, strip]
/-- … and the third's. -/
theorem placed_11 (y : (Tall 4).Idx) : (win0_11.blk t).view.emb y = placed t 4 y := by
  blk_ext [index_out t, placed, pic, strip]

/-- The position of the strip that row `r` of a block belongs to. -/
def posOf (r : Fin 7680) : Fin 512 := ⟨r.val / 15, by omega⟩

/-- The row of a position of the strip is the row of the picture at its place in the array. -/
theorem row_placed {n : Nat} (y : (Tall n).Idx) : rowOf t (posOf (y 1)) = rowAt (placed t n y 1) := by
  have hy : (y 1).val < 7680 := (y 1).isLt
  exact Fin.ext (show 4 * (strip t).val + (y 1).val / 15 / 128 = (7680 * (strip t).val + (y 1).val) / 1920 by omega)

/-- So is its column. -/
theorem col_placed {n : Nat} (y : (Tall n).Idx) : colOf (posOf (y 1)) = colAt (placed t n y 1) :=
  Fin.ext (show (y 1).val / 15 % 128 = (7680 * (strip t).val + (y 1).val) / 15 % 128 by omega)

/-- Its logit lane is the one the array row belongs to. -/
theorem lane2_placed (y : (Tall 2).Idx) : laneAt2 (placed t 2 y 1) (y 2) = (⟨2 * ((y 1).val % 15) + (y 2).val, by
    have : (y 2).val < 2 := (y 2).isLt; omega⟩ : Fin 30) :=
  Fin.ext (show 2 * ((7680 * (strip t).val + (y 1).val) % 15) + (y 2).val = 2 * ((y 1).val % 15) + (y 2).val by omega)

/-- So is its lane of box offsets. -/
theorem lane4_placed (y : (Tall 4).Idx) : laneAt4 (placed t 4 y 1) (y 2) = (⟨4 * ((y 1).val % 15) + (y 2).val, by
    have : (y 2).val < 4 := (y 2).isLt; omega⟩ : Fin 60) :=
  Fin.ext (show 4 * ((7680 * (strip t).val + (y 1).val) % 15) + (y 2).val = 4 * ((y 1).val % 15) + (y 2).val by omega)

/-! ## The arrays -/

/-- The first result after the run. -/
theorem final_logits : (dats m 0 c).arrAt 9 cfg0.N = outLogits m c := by
  refine (dats m 0 c).arrAt_eq_of_covers 9 _ (by decide +kernel) fun t hf y => ?_
  blk_simp
  rw [after_9, placed_9]
  refine (logits_block m c t (posOf (y 1)) _).trans ?_
  show _ = logitAt m c (pic t) (rowAt (placed t 2 y 1)) (colAt (placed t 2 y 1)) (laneAt2 (placed t 2 y 1) (y 2))
  rw [← row_placed, ← col_placed, lane2_placed]

/-- The second result after the run. -/
theorem final_probs : (dats m 0 c).arrAt 10 cfg0.N = outProbs m c := by
  refine (dats m 0 c).arrAt_eq_of_covers 10 _ (by decide +kernel) fun t hf y => ?_
  blk_simp
  rw [after_10, placed_10]
  refine (pairProbs_apply _ (posOf (y 1)) _).trans ?_
  rw [logits_block, logits_block]
  show _ = Ideal.logistic (logitAt m c (pic t) (rowAt (placed t 2 y 1)) (colAt (placed t 2 y 1)) (laneAt2 (placed t 2 y 1) (y 2))
    - logitAt m c (pic t) (rowAt (placed t 2 y 1)) (colAt (placed t 2 y 1)) (partner (laneAt2 (placed t 2 y 1) (y 2))))
  rw [← row_placed, ← col_placed, lane2_placed]

/-- The third result after the run. -/
theorem final_deltas : (dats m 0 c).arrAt 11 cfg0.N = outDeltas m c := by
  refine (dats m 0 c).arrAt_eq_of_covers 11 _ (by decide +kernel) fun t hf y => ?_
  blk_simp
  rw [after_11, placed_11]
  refine (deltas_block m c t (posOf (y 1)) _).trans ?_
  show _ = deltaAt m c (pic t) (rowAt (placed t 4 y 1)) (colAt (placed t 4 y 1)) (laneAt4 (placed t 4 y 1) (y 2))
  rw [← row_placed, ← col_placed, lane4_placed]

end Cert.Heads

end
-- ==== Proof.Finite.lean ====
/-
  THE CLASS HEAD IS FINITE. The shared features lie between 0 and 6 whatever the pictures and the convolution's weights are,
  so when the class head's own weights and bias are finite every logit is a real number; and of two real logits, the
  logistic function of their difference is what the softmax of the pair gives.
-/
module

public import proofs.«01_k».proof.Proof.Point
public import proofs.«01_k».proof.Proof.Gen.Pre_finite_cls
public import Idealize.ShloMosaic.Lib.ReduceAll

@[expose] public section

set_option maxRecDepth 16384

noncomputable section

namespace Cert.Heads

open Idealize.ShloMosaic hiding ix1 ix2 ix3 ix4 ix5
open Idealize.ShloMosaic.TcCoe Idealize.ShloMosaic.ValueIdx

/-! ## Real numbers among the ideal values -/

/-- `x` is a real number. -/
def IsReal (x : EReal) : Prop := ∃ r : ℝ, x = (r : EReal)

/-- A product of real numbers is one. -/
theorem real_mul {x y : EReal} (hx : IsReal x) (hy : IsReal y) : IsReal (x * y) := by
  obtain ⟨a, rfl⟩ := hx; obtain ⟨b, rfl⟩ := hy
  exact ⟨a * b, (EReal.coe_mul a b).symm⟩

/-- So is a sum of two, -/
theorem real_add {x y : EReal} (hx : IsReal x) (hy : IsReal y) : IsReal (x + y) := by
  obtain ⟨a, rfl⟩ := hx; obtain ⟨b, rfl⟩ := hy
  exact ⟨a + b, (EReal.coe_add a b).symm⟩

/-- and a sum of finitely many. -/
theorem real_sum {ι : Type} (s : Finset ι) (f : ι → EReal) (h : ∀ i ∈ s, IsReal (f i)) : IsReal (∑ i ∈ s, f i) :=
  Finset.sum_induction f IsReal (fun _ _ => real_add) ⟨0, rfl⟩ h

/-- A value between two real numbers is a real number. -/
theorem real_of_bounds {x : EReal} {a b : ℝ} (ha : (a : EReal) ≤ x) (hb : x ≤ (b : EReal)) : IsReal x := by
  refine ⟨x.toReal, (EReal.coe_toReal ?_ ?_).symm⟩
  · exact fun e => absurd (e ▸ hb) (not_le.2 (EReal.coe_lt_top b))
  · exact fun e => absurd (e ▸ ha) (not_le.2 (EReal.bot_lt_coe a))

/-- The pattern of 6 is the real 6. -/
theorem six_bits : Ideal.ofBits .f32 0x40C00000#32 = ((6 : ℝ) : EReal) := by
  simp [Ideal.ofBits, Ideal.ieee, -EReal.coe_mul]; norm_num

/-- A sum held between 0 and 6 is a real number. -/
theorem real_held (acc bias : EReal) : IsReal (held acc bias) := by
  refine real_of_bounds (a := 0) (b := 6) ?_ ?_
  · refine le_min ?_ (le_max_left _ _)
    rw [six_bits]
    exact EReal.coe_le_coe_iff.2 (by norm_num)
  · exact (min_le_left _ _).trans six_bits.le

/-! ## The precondition read back -/

/-- An absolute value below the pattern of infinity is a real number's. -/
theorem real_of_cmp {x : EReal} (h : FloatOps.cmpf (F := Ideal) (φ := .f32) .olt (FloatOps.hostAbsf (F := Ideal) (φ := .f32) x)
    (FloatOps.ofBits (F := Ideal) .f32 0x7F800000#32) = 1#1) : IsReal x := by
  have top : Ideal.ofBits .f32 0x7F800000#32 = ⊤ := by simp [Ideal.ofBits, Ideal.ieee]
  have lt : max x (-x) < ⊤ := by
    by_contra hn
    have e : Ideal.cmp .olt (max x (-x)) ⊤ = 1#1 := top ▸ h
    unfold Ideal.cmp at e
    simp [hn] at e
  refine ⟨x.toReal, (EReal.coe_toReal ?_ ?_).symm⟩
  · rintro rfl; simp at lt
  · rintro rfl; simp at lt

open Cert.KernelIdeal Cert.KernelIdeal.Gen

variable (m : (ℓ : Loc nD τ sig) → Buf (Elt Ideal) ℓ) (c : Dev nD)

/-- The class head's weights and bias are real numbers on device `c`. -/
def FiniteCls : Prop := (∀ o l, IsReal (wClass m c o l)) ∧ ∀ l, IsReal (bClass m c l)

/-- Every logit is a real number. -/
theorem real_logit (h : FiniteCls m c) (b : Fin 2) (r w : Fin 128) (l : Fin 30) : IsReal (logitAt m c b r w l) :=
  real_add (real_sum _ _ fun o _ => real_mul (real_held _ _) (h.1 o l)) (h.2 l)

/-- The precondition says just that. -/
theorem finite_of_pre [Cert.Pre_finite_cls.Facts] (h : Cert.Pre_finite_cls.fn (F := Ideal) (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) = fun _ => 1#1) :
    FiniteCls m c := by
  have e := IntOp.andi_eq_one.1 (congrFun h (fun a => a.elim0))
  haveI : Subsingleton Cert.Pre_finite_cls.S_.Idx := ⟨fun a b => funext fun x => x.elim0⟩
  exact ⟨fun o l => real_of_cmp (Host.reduce_andi_all _ _ _ _ _ e.1 (ix4 (n0 := 1) (n1 := 1) (n2 := 512) (n3 := 30) 0 0 o l)),
    fun l => real_of_cmp (Host.reduce_andi_all _ _ _ _ _ e.2 (ix1 (n := 30) l))⟩

/-! ## The softmax of a pair -/

/-- Of two real numbers, shifted by any real number: the share of the first is the logistic function of the difference. -/
theorem share_of_pair (a b s : ℝ) :
    Ideal.div (Ideal.exp ((a : EReal) - s)) (Ideal.exp ((a : EReal) - s) + Ideal.exp ((b : EReal) - s)) = Ideal.logistic ((a : EReal) - b) := by
  rw [← EReal.coe_sub, ← EReal.coe_sub, ← EReal.coe_sub, Ideal.exp_coe, Ideal.exp_coe, ← EReal.coe_add, Ideal.logistic_coe,
    Ideal.div_coe (by positivity), ← EReal.coe_mul]
  refine congrArg _ ?_
  have e : Real.exp (-(a - b)) = Real.exp (b - s) / Real.exp (a - s) := by
    rw [← Real.exp_sub]; congr 1; ring
  rw [e]
  have := Real.exp_pos (a - s)
  have := Real.exp_pos (b - s)
  field_simp

end Cert.Heads

end
-- ==== Proof.RefResults.lean ====
/-
  THE REFERENCE'S RESULTS ARE THE KERNEL'S, over the ideal values and on the kernel's arguments. The first and the third are
  the two heads laid out row by row; the second is the softmax of each pair of logits, which at finite logits is the logistic
  function of their difference.
-/
module

public import proofs.«01_k».proof.Proof.RefHeads
public import proofs.«01_k».proof.Proof.Arrays
public import proofs.«01_k».proof.Proof.Finite

@[expose] public section

set_option maxRecDepth 16384

noncomputable section

namespace Cert.Heads

open Cert.ReferenceIdeal Cert.ReferenceIdeal.Gen Cert.ReferenceIdeal.Read
open Idealize.ShloMosaic hiding ix1 ix2 ix3 ix4 ix5
open Idealize.ShloMosaic.TcCoe Idealize.ShloMosaic.ValueIdx

variable (m : (ℓ : Loc Cert.KernelIdeal.nD Cert.KernelIdeal.τ Cert.KernelIdeal.sig) → Buf (Elt Ideal) ℓ) (c : Dev Cert.KernelIdeal.nD)

/-! ## The first and the third result -/

/-- The reference's first result. -/
theorem logits_ref (i : S2x245760x2.Idx) :
    val_main_v60 (F := Ideal) (arg0 m c) (arg1 m c) (arg2 m c) (arg3 m c) (arg4 m c) i = outLogits m c i := by
  have h0 : (i 0).val < 2 := (i 0).isLt
  have h1 : (i 1).val < 245760 := (i 1).isLt
  have h2 : (i 2).val < 2 := (i 2).isLt
  refine (val_main_v60_apply _ _ _ _ _ i).trans (Eq.trans (congrArg _ (funext fun a => ?_))
    (logit_ref m c (i 0) (rowAt (i 1)) (colAt (i 1)) (laneAt2 (i 1) (i 2))))
  match a with
  | ⟨0, _⟩ => exact Fin.ext (show (((i 0).val * 245760 + (i 1).val) * 2 + (i 2).val) / 491520 = (i 0).val by omega)
  | ⟨1, _⟩ => exact Fin.ext (show (((i 0).val * 245760 + (i 1).val) * 2 + (i 2).val) / 3840 % 128 = (i 1).val / 1920 by omega)
  | ⟨2, _⟩ => exact Fin.ext (show (((i 0).val * 245760 + (i 1).val) * 2 + (i 2).val) / 30 % 128 = (i 1).val / 15 % 128 by omega)
  | ⟨3, _⟩ => exact Fin.ext (show (((i 0).val * 245760 + (i 1).val) * 2 + (i 2).val) % 30 = 2 * ((i 1).val % 15) + (i 2).val by omega)

/-- The reference's third result. -/
theorem deltas_ref (i : S2x245760x4.Idx) :
    val_main_v77 (F := Ideal) (arg0 m c) (arg1 m c) (arg2 m c) (arg5 m c) (arg6 m c) i = outDeltas m c i := by
  have h0 : (i 0).val < 2 := (i 0).isLt
  have h1 : (i 1).val < 245760 := (i 1).isLt
  have h2 : (i 2).val < 4 := (i 2).isLt
  refine (val_main_v77_apply _ _ _ _ _ i).trans (Eq.trans (congrArg _ (funext fun a => ?_))
    (delta_ref m c (i 0) (rowAt (i 1)) (colAt (i 1)) (laneAt4 (i 1) (i 2))))
  match a with
  | ⟨0, _⟩ => exact Fin.ext (show (((i 0).val * 245760 + (i 1).val) * 4 + (i 2).val) / 983040 = (i 0).val by omega)
  | ⟨1, _⟩ => exact Fin.ext (show (((i 0).val * 245760 + (i 1).val) * 4 + (i 2).val) / 7680 % 128 = (i 1).val / 1920 by omega)
  | ⟨2, _⟩ => exact Fin.ext (show (((i 0).val * 245760 + (i 1).val) * 4 + (i 2).val) / 60 % 128 = (i 1).val / 15 % 128 by omega)
  | ⟨3, _⟩ => exact Fin.ext (show (((i 0).val * 245760 + (i 1).val) * 4 + (i 2).val) % 60 = 4 * ((i 1).val % 15) + (i 2).val by omega)

/-! ## The second result -/

/-- The pair that an index of the reduced array stands for. -/
abbrev pairIdx (b : Fin 2) (n : Fin 245760) (k : Fin 2) : S2x245760x2.Idx := ix3 (n0 := 2) (n1 := 245760) (n2 := 2) b n k

/-- The pattern of minus infinity. -/
theorem least_bits : Ideal.ofBits .f32 0xFF800000#32 = ⊥ := by simp [Ideal.ofBits, Ideal.ieee]

/-- A maximum over two, from minus infinity. -/
theorem fold_two (f : Fin 2 → EReal) : (Finset.univ : Finset (Fin 2)).fold max ⊥ f = max (f 0) (f 1) := by
  simp only [Fin.univ_succ, Finset.fold_cons, Finset.fold_map, Finset.univ_eq_empty, Finset.fold_empty]
  simp

/-- A maximum over the last axis, from minus infinity, is the greater of the pair. -/
theorem greater_of_pair (x : S2x245760x2.Idx → EReal) (init : S_.Idx → EReal) (hi : init (Shape.Idx.first h_S_) = ⊥) (b : Fin 2) (n : Fin 245760) :
    Host.reduce (max : EReal → EReal → EReal) x init reducesTo_S2x245760x2_S2x245760_d2 h_S_ (ix2 (n0 := 2) (n1 := 245760) b n)
      = max (x (pairIdx b n 0)) (x (pairIdx b n 1)) := by
  have red : S2x245760x2.Reduces [2] S2x245760 := by decide
  have lift (k : Fin 2) : red.lift (ix2 (n0 := 2) (n1 := 245760) b n) k = pairIdx b n k :=
    funext fun a => match a with
      | ⟨0, _⟩ => rfl
      | ⟨1, _⟩ => rfl
      | ⟨2, _⟩ => rfl
  rw [Host.reduce_eq_fold_single max x init _ red, hi]
  exact (fold_two fun k => x (red.lift (ix2 (n0 := 2) (n1 := 245760) b n) k)).trans (congrArg₂ max (congrArg x (lift 0)) (congrArg x (lift 1)))

/-- The greater of the pair, as the reference takes it. -/
theorem greatest_ref (b : Fin 2) (n : Fin 245760) :
    val_main_v63 (F := Ideal) (arg0 m c) (arg1 m c) (arg2 m c) (arg3 m c) (arg4 m c) (ix2 (n0 := 2) (n1 := 245760) b n)
      = max (outLogits m c (pairIdx b n 0)) (outLogits m c (pairIdx b n 1)) := by
  have start : val_main_v62 (F := Ideal) (ix2 (n0 := 2) (n1 := 245760) b n) = (⊥ : EReal) := (val_main_v62_apply _).trans least_bits
  have fold : val_main_v61 (F := Ideal) (arg0 m c) (arg1 m c) (arg2 m c) (arg3 m c) (arg4 m c) (ix2 (n0 := 2) (n1 := 245760) b n)
      = max (outLogits m c (pairIdx b n 0)) (outLogits m c (pairIdx b n 1)) := by
    rw [← logits_ref, ← logits_ref]
    unfold val_main_v61
    generalize val_main_v60 (F := Ideal) (arg0 m c) (arg1 m c) (arg2 m c) (arg3 m c) (arg4 m c) = x
    exact greater_of_pair x _ least_bits b n
  rw [val_main_v63_apply, start, fold]
  exact max_eq_right bot_le

/-- The exponential of a shifted logit. -/
theorem shifted_ref (b : Fin 2) (n : Fin 245760) (k : Fin 2) :
    val_main_v67 (F := Ideal) (arg0 m c) (arg1 m c) (arg2 m c) (arg3 m c) (arg4 m c) (pairIdx b n k)
      = Ideal.exp (outLogits m c (pairIdx b n k) - max (outLogits m c (pairIdx b n 0)) (outLogits m c (pairIdx b n 1))) := by
  have shift : val_main_v65 (F := Ideal) (arg0 m c) (arg1 m c) (arg2 m c) (arg3 m c) (arg4 m c) (pairIdx b n k)
      = max (outLogits m c (pairIdx b n 0)) (outLogits m c (pairIdx b n 1)) := by
    refine (val_main_v65_apply _ _ _ _ _ _).trans ((val_main_v64_apply _ _ _ _ _ _).trans (Eq.trans (congrArg _ (funext fun a => ?_))
      (greatest_ref m c b n)))
    match a with
    | ⟨0, _⟩ => rfl
    | ⟨1, _⟩ => rfl
  exact congrArg Ideal.exp (congrArg₂ (fun x y : EReal => x - y) (logits_ref m c _) shift)

/-- The sum of the pair's exponentials. -/
theorem total_ref (b : Fin 2) (n : Fin 245760) (k : Fin 2) :
    val_main_v70 (F := Ideal) (arg0 m c) (arg1 m c) (arg2 m c) (arg3 m c) (arg4 m c) (pairIdx b n k)
      = Ideal.exp (outLogits m c (pairIdx b n 0) - max (outLogits m c (pairIdx b n 0)) (outLogits m c (pairIdx b n 1)))
        + Ideal.exp (outLogits m c (pairIdx b n 1) - max (outLogits m c (pairIdx b n 0)) (outLogits m c (pairIdx b n 1))) := by
  have z : val_main_cst_4 (F := Ideal) (Shape.Idx.first h_S_) = (0 : EReal) := Ideal.ofBits_zero_f32
  have idx (k' : Fin 2) : idx_main_v68 (idx_main_v69 (idx_main_v70 (pairIdx b n k))) k' = pairIdx b n k' := funext fun a => match a with
    | ⟨0, _⟩ => rfl
    | ⟨1, _⟩ => rfl
    | ⟨2, _⟩ => rfl
  rw [val_main_v70_apply, val_main_v69_apply, val_main_v68_apply, z, Fin.sum_univ_two, idx, idx, shifted_ref, shifted_ref, zero_add]

/-- The first logit's partner is the second; -/
theorem partner_first (n : Fin 245760) : partner (laneAt2 n 0) = laneAt2 n 1 := by
  have e : (laneAt2 n 0).val = 2 * (n.val % 15) := rfl
  unfold partner
  rw [if_pos (by omega)]
  exact Fin.ext (show ((laneAt2 n 0).val + 1) % 30 = 2 * (n.val % 15) + 1 by omega)

/-- the second's is the first. -/
theorem partner_second (n : Fin 245760) : partner (laneAt2 n 1) = laneAt2 n 0 := by
  have e : (laneAt2 n 1).val = 2 * (n.val % 15) + 1 := rfl
  unfold partner
  rw [if_neg (by omega)]
  exact Fin.ext (show (laneAt2 n 1).val - 1 = 2 * (n.val % 15) + 0 by omega)

/-- The share of the pair's first logit and of its second. -/
theorem probs_ref (h : FiniteCls m c) (i : S2x245760x2.Idx) :
    val_main_v71 (F := Ideal) (arg0 m c) (arg1 m c) (arg2 m c) (arg3 m c) (arg4 m c) i = outProbs m c i := by
  obtain ⟨b, n, k, rfl⟩ : ∃ (b : Fin 2) (n : Fin 245760) (k : Fin 2), i = pairIdx b n k :=
    ⟨i 0, i 1, i 2, funext fun a => match a with
      | ⟨0, _⟩ => rfl
      | ⟨1, _⟩ => rfl
      | ⟨2, _⟩ => rfl⟩
  rw [val_main_v71_apply, shifted_ref, total_ref]
  obtain ⟨x, hx⟩ := real_logit m c h b (rowAt n) (colAt n) (laneAt2 n 0)
  obtain ⟨y, hy⟩ := real_logit m c h b (rowAt n) (colAt n) (laneAt2 n 1)
  have e0 : outLogits m c (pairIdx b n 0) = (x : EReal) := hx
  have e1 : outLogits m c (pairIdx b n 1) = (y : EReal) := hy
  have ms : max (x : EReal) (y : EReal) = ((max x y : ℝ) : EReal) := (EReal.coe_strictMono.monotone.map_max).symm
  match k with
  | 0 =>
    have p : outProbs m c (pairIdx b n 0) = Ideal.logistic ((x : EReal) - y) := by
      show Ideal.logistic (logitAt m c b (rowAt n) (colAt n) (laneAt2 n 0) - logitAt m c b (rowAt n) (colAt n) (partner (laneAt2 n 0))) = _
      rw [partner_first, hx, hy]
    rw [p, e0, e1, ms]
    exact share_of_pair x y _
  | 1 =>
    have p : outProbs m c (pairIdx b n 1) = Ideal.logistic ((y : EReal) - x) := by
      show Ideal.logistic (logitAt m c b (rowAt n) (colAt n) (laneAt2 n 1) - logitAt m c b (rowAt n) (colAt n) (partner (laneAt2 n 1))) = _
      rw [partner_second, hx, hy]
    rw [p, e0, e1, ms, add_comm (Ideal.exp ((x : EReal) - _))]
    exact share_of_pair y x _

end Cert.Heads

end
-- ==== Proof.Values.lean ====
/-
  THE VALUE CLAIM. What the kernel's run leaves in its three results and what the reference computes from the same arguments
  are the same three functions.
-/
module

public import proofs.«01_k».proof.Proof.RefResults
public import proofs.«01_k».proof.Proof.Gen.ReferenceIdeal.Run
public import proofs.«01_k».proof.Defs

@[expose] public section

set_option maxRecDepth 16384

noncomputable section

namespace Cert.Heads

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The kernel's run: its three results are the heads written plainly, and its arguments are as they were. -/
theorem run_values : θ_run (defs (F := Ideal)) (onTc (τ := τ) (main (F := Ideal))) ⟨m, fun _ => 0, ρ⟩ (fun r => ∀ c : Dev nD,
      r.2.mem ((c.tc : Thread nD τ).loc main_v9_0) = outLogits m c
      ∧ r.2.mem ((c.tc : Thread nD τ).loc main_v9_1) = outProbs m c
      ∧ r.2.mem ((c.tc : Thread nD τ).loc main_v9_2) = outDeltas m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1.out_eq c 9).trans (final_logits m c), (h.1.out_eq c 10).trans (final_probs m c),
    (h.1.out_eq c 11).trans (final_deltas m c), h.2 c⟩) (θ_run_and (run_arrays m ρ) (run_args m ρ))

variable (c : Dev nD)

/-- The reference's results at an array of arguments equal to the kernel's. -/
theorem results_ref (hf : FiniteCls m c)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = arg0 m c)
    (h1 : m' ((c.tc : Thread Cert.ReferenceIdeal.nD Cert.ReferenceIdeal.τ).loc Cert.ReferenceIdeal.main_arg1) = arg1 m c)
    (h2 : m' ((c.tc : Thread Cert.ReferenceIdeal.nD Cert.ReferenceIdeal.τ).loc Cert.ReferenceIdeal.main_arg2) = arg2 m c)
    (h3 : m' ((c.tc : Thread Cert.ReferenceIdeal.nD Cert.ReferenceIdeal.τ).loc Cert.ReferenceIdeal.main_arg3) = arg3 m c)
    (h4 : m' ((c.tc : Thread Cert.ReferenceIdeal.nD Cert.ReferenceIdeal.τ).loc Cert.ReferenceIdeal.main_arg4) = arg4 m c)
    (h5 : m' ((c.tc : Thread Cert.ReferenceIdeal.nD Cert.ReferenceIdeal.τ).loc Cert.ReferenceIdeal.main_arg5) = arg5 m c)
    (h6 : m' ((c.tc : Thread Cert.ReferenceIdeal.nD Cert.ReferenceIdeal.τ).loc Cert.ReferenceIdeal.main_arg6) = arg6 m c) :
    Cert.ReferenceIdeal.Value.res_main_v60 m' c = outLogits m c ∧ Cert.ReferenceIdeal.Value.res_main_v71 m' c = outProbs m c
      ∧ Cert.ReferenceIdeal.Value.res_main_v77 m' c = outDeltas m c := by
  refine ⟨(Cert.ReferenceIdeal.Read.val_main_v60_eq m' c).trans ?_, (Cert.ReferenceIdeal.Read.val_main_v71_eq m' c).trans ?_,
    (Cert.ReferenceIdeal.Read.val_main_v77_eq m' c).trans ?_⟩
  · rw [h0, h1, h2, h3, h4]; exact funext (logits_ref m c)
  · rw [h0, h1, h2, h3, h4]; exact funext (probs_ref m c hf)
  · rw [h0, h1, h2, h5, h6]; exact funext (deltas_ref m c)

/-- From equal arguments, and with the class head's weights and bias finite, the kernel and the reference give equal results. -/
theorem algebraic : Cert.algebraic_KernelIdeal_ReferenceIdeal_pre_finite_cls := fun m ρ m' ρ' hpre hargs =>
  ⟨outLogits m, outProbs m, outDeltas m, run_values m ρ,
    (θ_run Cert.ReferenceIdeal.defs _ _).mono (fun r h c => by
      obtain ⟨h0, h1, h2, h3, h4, h5, h6⟩ := hargs c
      obtain ⟨e0, e1, e2⟩ := results_ref m c (finite_of_pre m c (hpre c)) m' h0 h1 h2 h3 h4 h5 h6
      obtain ⟨r0, r1, r2, rest⟩ := h c
      exact ⟨r0.trans e0, r1.trans e1, r2.trans e2, rest⟩)
      (Cert.ReferenceIdeal.Value.run (F := Ideal) m' ρ')⟩

end Cert.Heads

end
-- ==== Proof.lean ====
/-
  THE CERTIFICATE. The frames of the kernel as printed and of its ideal reading come from one run (Proof/Run.lean), stated
  at any float values; the reference's frame from its run as a sequence of array operations. The value claim is
  Proof/Values.lean's equation between what the kernel's run leaves and what the reference computes.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_cls
public import proofs.«01_k».proof.Proof.SameText
public import proofs.«01_k».proof.Proof.Values
public import Idealize.ShloMosaic.Adequacy
public import Idealize.ShloMosaic.Init

@[expose] public section

noncomputable section

namespace Cert.Proof

open Idealize.ShloMosaic Idealize.SL.Sem

/-- The kernel as printed terminates without a fault, leaves its arguments as they were and every counter at zero. -/
theorem frame_kernel : Cert.quiescent_Kernel := fun m ρ _ => by
  rw [Cert.Heads.tables_same]
  exact (θ_run Cert.KernelIdeal.defs _ _).mono (fun _ h => h) (Cert.Heads.run_main (F := Bits) m ρ)

/-- So does its ideal reading, … -/
theorem frame_ideal : Cert.quiescent_KernelIdeal := fun m ρ _ => Cert.Heads.run_main (F := Ideal) m ρ

/-- … with finite class weights as with any; -/
theorem frame_ideal_finite : Cert.quiescent_KernelIdeal_pre_finite_cls := fun m ρ _ => Cert.Heads.run_main (F := Ideal) m ρ

/-- and so does the reference, which declares no semaphore, … -/
theorem frame_reference : Cert.quiescent_ReferenceIdeal := fun m ρ _ =>
  (θ_run Cert.ReferenceIdeal.defs _ _).mono (fun r h => And.intro (fun c => (h c).2.2.2)
      (Idealize.ShloMosaic.sem_eq_zero_of_no_sems (by decide) r.2))
    (Cert.ReferenceIdeal.Value.run (F := Ideal) m ρ)

/-- … with finite class weights as with any. -/
theorem frame_reference_finite : Cert.quiescent_ReferenceIdeal_pre_finite_cls := fun m ρ _ =>
  frame_reference m ρ trivial

/-- The certificate: every claim, with the side conditions the programs state. -/
theorem claim : Cert.Claim :=
  ⟨Cert.Kernel.Gen.facts, Cert.KernelIdeal.Gen.facts, Cert.ReferenceIdeal.Gen.facts, Cert.Pre_finite_cls.Gen.facts,
    frame_kernel, frame_ideal, frame_ideal_finite, frame_reference, frame_reference_finite, trivial, Cert.Heads.algebraic⟩

end Cert.Proof

end
